-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_table [hPre_zero_table : Cert.Pre_zero_table.Facts] (m : (ℓ : Loc Cert.KernelIdeal.nD Cert.KernelIdeal.τ Cert.KernelIdeal.sig) → Buf (Elt Ideal) ℓ) : Prop :=
  ∀ c : Dev Cert.KernelIdeal.nD,
    (Cert.Pre_zero_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_table [hPre_zero_table : Cert.Pre_zero_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_ones [hPre_ones : Cert.Pre_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_zero_table [hKernelIdeal : Cert.KernelIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_zero_table [hReferenceIdeal : Cert.ReferenceIdeal.Facts] [hPre_zero_table : Cert.Pre_zero_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ones [hReferenceIdeal : Cert.ReferenceIdeal.Facts] [hPre_ones : Cert.Pre_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_zero_table [hKernelIdeal : Cert.KernelIdeal.Facts] [hReferenceIdeal : Cert.ReferenceIdeal.Facts] [hPre_zero_table : Cert.Pre_zero_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_scores_zero [hKernelIdeal : Cert.KernelIdeal.Facts] [hPost_scores_zero : Cert.Post_scores_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_scores_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v3)) (r.2.mem ((c.tc : Thread Cert.KernelIdeal.nD Cert.KernelIdeal.τ).loc Cert.KernelIdeal.main_v2))) = (fun _ => 1#1))

def holds_ReferenceIdeal_scores_2048_pre_ones [hReferenceIdeal : Cert.ReferenceIdeal.Facts] [hPre_ones : Cert.Pre_ones.Facts] [hPost_scores_2048 : Cert.Post_scores_2048.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ (Cert.Post_scores_2048.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (r.2.mem ((c.tc : Thread Cert.ReferenceIdeal.nD Cert.ReferenceIdeal.τ).loc Cert.ReferenceIdeal.main_v205)) (r.2.mem ((c.tc : Thread Cert.ReferenceIdeal.nD Cert.ReferenceIdeal.τ).loc Cert.ReferenceIdeal.main_v3))) = (fun _ => 1#1))

def Claim : Prop :=
  ∃ (hKernel : Cert.Kernel.Facts) (hKernelIdeal : Cert.KernelIdeal.Facts) (hReferenceIdeal : Cert.ReferenceIdeal.Facts) (hPre_zero_table : Cert.Pre_zero_table.Facts) (hPre_ones : Cert.Pre_ones.Facts) (hPost_scores_zero : Cert.Post_scores_zero.Facts) (hPost_scores_2048 : Cert.Post_scores_2048.Facts),
    quiescent_Kernel (hKernel := hKernel)
    ∧ quiescent_KernelIdeal (hKernelIdeal := hKernelIdeal)
    ∧ quiescent_KernelIdeal_pre_zero_table (hKernelIdeal := hKernelIdeal) (hPre_zero_table := hPre_zero_table)
    ∧ quiescent_ReferenceIdeal (hReferenceIdeal := hReferenceIdeal)
    ∧ quiescent_ReferenceIdeal_pre_zero_table (hReferenceIdeal := hReferenceIdeal) (hPre_zero_table := hPre_zero_table)
    ∧ quiescent_ReferenceIdeal_pre_ones (hReferenceIdeal := hReferenceIdeal) (hPre_ones := hPre_ones)
    ∧ preserves_Kernel_KernelIdeal
    ∧ algebraic_KernelIdeal_ReferenceIdeal_pre_zero_table (hKernelIdeal := hKernelIdeal) (hReferenceIdeal := hReferenceIdeal) (hPre_zero_table := hPre_zero_table)
    ∧ holds_KernelIdeal_scores_zero (hKernelIdeal := hKernelIdeal) (hPost_scores_zero := hPost_scores_zero)
    ∧ holds_ReferenceIdeal_scores_2048_pre_ones (hReferenceIdeal := hReferenceIdeal) (hPre_ones := hPre_ones) (hPost_scores_2048 := hPost_scores_2048)
-- ==== Post_scores_2048.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S_ : Shape := ⟨0, ![]⟩
abbrev S128x16384 : Shape := ⟨2, ![128, 16384]⟩

class Facts : Prop where
  bcast_S_S128x16384 : S_.BroadcastsInDim S128x16384 (![] : Fin 0 → Fin S128x16384.rank)

variable [Facts]

def fn {F : FTy → Type} [FloatOps F] (main_arg0 : FVec F S128x2048 .f32) (main_arg1 : IVec S128 32) (main_arg2 : IVec S128x2 32) (main_arg3 : IVec S128 32) (main_arg4 : FVec F S16384x2048 .f32) (main_arg5 : FVec F S_ .f32) (main_arg6 : FVec F S128x16384 .f32) : IVec S128x16384 1 :=
  let main_cst : FVec F S_ .f32 := constant S_ .f32 0x45000000#32
  let main_v0 : FVec F S128x16384 .f32 := broadcastInDim S128x16384 ![] bcast_S_S128x16384 main_cst
  let main_v1 : IVec S128x16384 1 := cmpf .oeq main_arg6 main_v0
  main_v1
-- ==== Post_scores_zero.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S_ : Shape := ⟨0, ![]⟩
abbrev S128x16384 : Shape := ⟨2, ![128, 16384]⟩

class Facts : Prop where
  bcast_S_S128x16384 : S_.BroadcastsInDim S128x16384 (![] : Fin 0 → Fin S128x16384.rank)

variable [Facts]

def fn {F : FTy → Type} [FloatOps F] (main_arg0 : FVec F S128x2048 .f32) (main_arg1 : IVec S128 32) (main_arg2 : IVec S128x2 32) (main_arg3 : IVec S128 32) (main_arg4 : FVec F S16384x2048 .f32) (main_arg5 : FVec F S_ .f32) (main_arg6 : FVec F S128x16384 .f32) : IVec S128x16384 1 :=
  let main_cst : FVec F S_ .f32 := constant S_ .f32 0x00000000#32
  let main_v0 : FVec F S128x16384 .f32 := broadcastInDim S128x16384 ![] bcast_S_S128x16384 main_cst
  let main_v1 : IVec S128x16384 1 := cmpf .oeq main_arg6 main_v0
  main_v1
-- ==== Pre_ones.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S_ : Shape := ⟨0, ![]⟩

class Facts : Prop where
  bcast_S_S128x2048 : S_.BroadcastsInDim S128x2048 (![] : Fin 0 → Fin S128x2048.rank)
  bcast_S_S16384x2048 : S_.BroadcastsInDim S16384x2048 (![] : Fin 0 → Fin S16384x2048.rank)

variable [Facts]

def fn {F : FTy → Type} [FloatOps F] (main_arg0 : FVec F S128x2048 .f32) (main_arg1 : IVec S128 32) (main_arg2 : IVec S128x2 32) (main_arg3 : IVec S128 32) (main_arg4 : FVec F S16384x2048 .f32) : IVec S128x2048 1 × IVec S16384x2048 1 :=
  let main_cst : FVec F S_ .f32 := constant S_ .f32 0x3F800000#32
  let main_v0 : FVec F S128x2048 .f32 := broadcastInDim S128x2048 ![] bcast_S_S128x2048 main_cst
  let main_v1 : IVec S128x2048 1 := cmpf .oeq main_arg0 main_v0
  let main_cst_0 : FVec F S_ .f32 := constant S_ .f32 0x3F800000#32
  let main_v2 : FVec F S16384x2048 .f32 := broadcastInDim S16384x2048 ![] bcast_S_S16384x2048 main_cst_0
  let main_v3 : IVec S16384x2048 1 := cmpf .oeq main_arg4 main_v2
  (main_v1, main_v3)
-- ==== Pre_zero_table.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S128x2048 .f32) (main_arg1 : IVec S128 32) (main_arg2 : IVec S128x2 32) (main_arg3 : IVec S128 32) (main_arg4 : FVec F S16384x2048 .f32) : IVec S16384x2048 1 :=
  let main_cst : FVec F S_ .f32 := constant S_ .f32 0x00000000#32
  let main_v0 : FVec F S16384x2048 .f32 := broadcastInDim S16384x2048 ![] bcast_S_S16384x2048 main_cst
  let main_v1 : IVec S16384x2048 1 := cmpf .oeq main_arg4 main_v0
  main_v1
-- ==== Kernel.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S1x128 : Shape := ⟨2, ![1, 128]⟩
abbrev S1x1 : Shape := ⟨2, ![1, 1]⟩
abbrev S128x1 : Shape := ⟨2, ![128, 1]⟩
abbrev S2048x128 : Shape := ⟨2, ![2048, 128]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S128x16384 : Shape := ⟨2, ![128, 16384]⟩
abbrev S128x1024 : Shape := ⟨2, ![128, 1024]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S128, .i32⟩
  | .hbm, ⟨2, _⟩ => ⟨S128x2, .i32⟩
  | .hbm, ⟨3, _⟩ => ⟨S128, .i32⟩
  | .hbm, ⟨4, _⟩ => ⟨S16384x2048, .f32⟩
  | .hbm, ⟨5, _⟩ => ⟨S1x128, .i32⟩
  | .hbm, ⟨6, _⟩ => ⟨S1x1, .f32⟩
  | .hbm, ⟨7, _⟩ => ⟨S128x16384, .f32⟩
  | .hbm, ⟨8, _⟩ => ⟨S_, .f32⟩
  | .local _ .vmem, ⟨0, _⟩ => ⟨S128x2048, .f32⟩
  | .local _ .vmem, ⟨1, _⟩ => ⟨S1x128, .i32⟩
  | .local _ .vmem, ⟨2, _⟩ => ⟨S1x1, .f32⟩
  | .local _ .vmem, ⟨3, _⟩ => ⟨S128x1024, .f32⟩
  | .local _ .vmem, ⟨4, _⟩ => ⟨S128x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]
-- ==== ReferenceIdeal.lean ====
abbrev S128x2048 : Shape := ⟨2, ![128, 2048]⟩
abbrev S128 : Shape := ⟨1, ![128]⟩
abbrev S128x2 : Shape := ⟨2, ![128, 2]⟩
abbrev S16384x2048 : Shape := ⟨2, ![16384, 2048]⟩
abbrev S2048x16384 : Shape := ⟨2, ![2048, 16384]⟩
abbrev S128x16384 : Shape := ⟨2, ![128, 16384]⟩
abbrev S_ : Shape := ⟨0, ![]⟩
abbrev S128x1 : Shape := ⟨2, ![128, 1]⟩
abbrev S2048x128 : Shape := ⟨2, ![2048, 128]⟩
abbrev S128x128 : Shape := ⟨2, ![128, 128]⟩
abbrev S1x128 : Shape := ⟨2, ![1, 128]⟩
abbrev S128x127 : Shape := ⟨2, ![128, 127]⟩
abbrev S128x127x1 : Shape := ⟨3, ![128, 127, 1]⟩
abbrev S128x127x2 : Shape := ⟨3, ![128, 127, 2]⟩
abbrev S16384 : Shape := ⟨1, ![16384]⟩

abbrev nBuf : Space → Nat
  | .hbm => 309
  | .vmem => 0
  | .smem => 0
  | _ => 0

abbrev hbmTy0_0 (i : Nat) : BufTy := match i % 128 with
  | 0 => ⟨S128x2048, .f32⟩
  | 1 => ⟨S128, .i32⟩
  | 2 => ⟨S128x2, .i32⟩
  | 3 => ⟨S128, .i32⟩
  | 4 => ⟨S16384x2048, .f32⟩
  | 5 => ⟨S2048x16384, .f32⟩
  | 6 => ⟨S128x16384, .f32⟩
  | 7 => ⟨S_, .f32⟩
  | 8 => ⟨S128x16384, .f32⟩
  | 9 => ⟨S128x16384, .f32⟩
  | 10 => ⟨S_, .f32⟩
  | 11 => ⟨S128, .f32⟩
  | 12 => ⟨S_, .f32⟩
  | 13 => ⟨S128, .f32⟩
  | 14 => ⟨S128, .f32⟩
  | 15 => ⟨S128x1, .f32⟩
  | 16 => ⟨S128x16384, .f32⟩
  | 17 => ⟨S128x16384, .f32⟩
  | 18 => ⟨S128x16384, .f32⟩
  | 19 => ⟨S_, .f32⟩
  | 20 => ⟨S128, .f32⟩
  | 21 => ⟨S128x1, .f32⟩
  | 22 => ⟨S128x1, .f32⟩
  | 23 => ⟨S128x16384, .f32⟩
  | 24 => ⟨S128x16384, .f32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i32⟩
  | 39 => ⟨S128, .i32⟩
  | 40 => ⟨S128x1, .i32⟩
  | 41 => ⟨S128x1, .i32⟩
  | 42 => ⟨S128x2, .i32⟩
  | 43 => ⟨S128, .f32⟩
  | 44 => ⟨S_, .f32⟩
  | 45 => ⟨S_, .f32⟩
  | 46 => ⟨S_, .f32⟩
  | 47 => ⟨S_, .f32⟩
  | 48 => ⟨S_, .f32⟩
  | 49 => ⟨S128x2048, .f32⟩
  | 50 => ⟨S_, .f32⟩
  | 51 => ⟨S128, .f32⟩
  | 52 => ⟨S128x1, .f32⟩
  | 53 => ⟨S128x1, .f32⟩
  | 54 => ⟨S_, .f32⟩
  | 55 => ⟨S128x1, .f32⟩
  | 56 => ⟨S128x1, .f32⟩
  | 57 => ⟨S128x2048, .f32⟩
  | 58 => ⟨S128x2048, .f32⟩
  | 59 => ⟨S2048x128, .f32⟩
  | 60 => ⟨S128x128, .f32⟩
  | 61 => ⟨S128x1, .i32⟩
  | 62 => ⟨S1x128, .i32⟩
  | 63 => ⟨S128x128, .i32⟩
  | 64 => ⟨S128x128, .i32⟩
  | 65 => ⟨S128x128, .i1⟩
  | 66 => ⟨S_, .f32⟩
  | 67 => ⟨S_, .f32⟩
  | 68 => ⟨S128x128, .f32⟩
  | 69 => ⟨S128x128, .f32⟩
  | 70 => ⟨S128x127, .i32⟩
  | 71 => ⟨S128x127, .i32⟩
  | 72 => ⟨S128x127, .i1⟩
  | 73 => ⟨S_, .i32⟩
  | 74 => ⟨S128x127, .i32⟩
  | 75 => ⟨S128x127, .i32⟩
  | 76 => ⟨S128x127, .i32⟩
  | 77 => ⟨S_, .i32⟩
  | 78 => ⟨S128x127, .i32⟩
  | 79 => ⟨S128x127, .i1⟩
  | 80 => ⟨S_, .i32⟩
  | 81 => ⟨S128x127, .i32⟩
  | 82 => ⟨S128x127, .i32⟩
  | 83 => ⟨S128x127, .i32⟩
  | 84 => ⟨S_, .i32⟩
  | 85 => ⟨S128x127, .i32⟩
  | 86 => ⟨S128x127, .i1⟩
  | 87 => ⟨S_, .i32⟩
  | 88 => ⟨S128x127, .i32⟩
  | 89 => ⟨S128x127, .i32⟩
  | 90 => ⟨S128x127, .i32⟩
  | 91 => ⟨S128x127x1, .i32⟩
  | 92 => ⟨S128x127x1, .i32⟩
  | 93 => ⟨S128x127x2, .i32⟩
  | 94 => ⟨S128x127, .f32⟩
  | 95 => ⟨S_, .f32⟩
  | 96 => ⟨S128, .f32⟩
  | 97 => ⟨S128x1, .f32⟩
  | 98 => ⟨S_, .f32⟩
  | 99 => ⟨S128x1, .f32⟩
  | 100 => ⟨S128x1, .f32⟩
  | 101 => ⟨S_, .f32⟩
  | 102 => ⟨S128x127, .f32⟩
  | 103 => ⟨S128x127, .i1⟩
  | 104 => ⟨S_, .f32⟩
  | 105 => ⟨S_, .f32⟩
  | 106 => ⟨S128x127, .f32⟩
  | 107 => ⟨S128x127, .f32⟩
  | 108 => ⟨S_, .f32⟩
  | 109 => ⟨S128, .f32⟩
  | 110 => ⟨S128x1, .f32⟩
  | 111 => ⟨S_, .f32⟩
  | 112 => ⟨S128x1, .f32⟩
  | 113 => ⟨S128x1, .f32⟩
  | 114 => ⟨S128x127, .f32⟩
  | 115 => ⟨S128x127, .i1⟩
  | 116 => ⟨S_, .f32⟩
  | 117 => ⟨S128x127, .f32⟩
  | 118 => ⟨S128x127, .f32⟩
  | 119 => ⟨S_, .f32⟩
  | 120 => ⟨S128x127, .f32⟩
  | 121 => ⟨S128x127, .f32⟩
  | 122 => ⟨S128x127, .f32⟩
  | 123 => ⟨S128x127, .f32⟩
  | 124 => ⟨S128x127, .f32⟩
  | 125 => ⟨S128x127, .f32⟩
  | 126 => ⟨S128x127, .f32⟩
  | 127 => ⟨S128x127, .f32⟩
  | _ => ⟨S128x2048, .f32⟩

abbrev hbmTy0_1 (i : Nat) : BufTy := match i % 128 with
  | 0 => ⟨S128x127, .i32⟩
  | 1 => ⟨S_, .i32⟩
  | 2 => ⟨S_, .i32⟩
  | 3 => ⟨S_, .f32⟩
  | 4 => ⟨S_, .f32⟩
  | 5 => ⟨S128x127, .f32⟩
  | 6 => ⟨S128x127, .f32⟩
  | 7 => ⟨S_, .f32⟩
  | 8 => ⟨S_, .f32⟩
  | 9 => ⟨S_, .i32⟩
  | 10 => ⟨S_, .i1⟩
  | 11 => ⟨S_, .i32⟩
  | 12 => ⟨S_, .i32⟩
  | 13 => ⟨S_, .f32⟩
  | 14 => ⟨S_, .f32⟩
  | 15 => ⟨S_, .f32⟩
  | 16 => ⟨S_, .f32⟩
  | 17 => ⟨S_, .f32⟩
  | 18 => ⟨S128x128, .i1⟩
  | 19 => ⟨S_, .f32⟩
  | 20 => ⟨S_, .f32⟩
  | 21 => ⟨S128x128, .f32⟩
  | 22 => ⟨S128x128, .f32⟩
  | 23 => ⟨S128x127, .i32⟩
  | 24 => ⟨S128x127, .i32⟩
  | 25 => ⟨S128x127, .i1⟩
  | 26 => ⟨S_, .i32⟩
  | 27 => ⟨S128x127, .i32⟩
  | 28 => ⟨S128x127, .i32⟩
  | 29 => ⟨S128x127, .i32⟩
  | 30 => ⟨S_, .i32⟩
  | 31 => ⟨S128x127, .i32⟩
  | 32 => ⟨S128x127, .i1⟩
  | 33 => ⟨S_, .i32⟩
  | 34 => ⟨S128x127, .i32⟩
  | 35 => ⟨S128x127, .i32⟩
  | 36 => ⟨S128x127, .i32⟩
  | 37 => ⟨S_, .i32⟩
  | 38 => ⟨S128x127, .i32⟩
  | 39 => ⟨S128x127, .i1⟩
  | 40 => ⟨S_, .i32⟩
  | 41 => ⟨S128x127, .i32⟩
  | 42 => ⟨S128x127, .i32⟩
  | 43 => ⟨S128x127, .i32⟩
  | 44 => ⟨S128x127x1, .i32⟩
  | 45 => ⟨S128x127x1, .i32⟩
  | 46 => ⟨S128x127x2, .i32⟩
  | 47 => ⟨S128x127, .f32⟩
  | 48 => ⟨S128x127, .f32⟩
  | 49 => ⟨S128x127, .i1⟩
  | 50 => ⟨S_, .f32⟩
  | 51 => ⟨S128x127, .f32⟩
  | 52 => ⟨S128x127, .f32⟩
  | 53 => ⟨S_, .f32⟩
  | 54 => ⟨S128x127, .f32⟩
  | 55 => ⟨S128x127, .f32⟩
  | 56 => ⟨S128x127, .f32⟩
  | 57 => ⟨S128x127, .f32⟩
  | 58 => ⟨S128x127, .f32⟩
  | 59 => ⟨S128x127, .f32⟩
  | 60 => ⟨S128x127, .f32⟩
  | 61 => ⟨S128x127, .f32⟩
  | 62 => ⟨S128x127, .i32⟩
  | 63 => ⟨S_, .i32⟩
  | 64 => ⟨S_, .i32⟩
  | 65 => ⟨S_, .f32⟩
  | 66 => ⟨S_, .f32⟩
  | 67 => ⟨S128x127, .f32⟩
  | 68 => ⟨S128x127, .f32⟩
  | 69 => ⟨S_, .f32⟩
  | 70 => ⟨S_, .f32⟩
  | 71 => ⟨S_, .i32⟩
  | 72 => ⟨S_, .i1⟩
  | 73 => ⟨S_, .i32⟩
  | 74 => ⟨S_, .i32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S16384, .f32⟩
  | 83 => ⟨S_, .f32⟩
  | 84 => ⟨S16384, .f32⟩
  | 85 => ⟨S16384, .i1⟩
  | 86 => ⟨S_, .i1⟩
  | 87 => ⟨S_, .i1⟩
  | 88 => ⟨S128x2048, .f32⟩
  | 89 => ⟨S_, .f32⟩
  | 90 => ⟨S128, .f32⟩
  | 91 => ⟨S128x1, .f32⟩
  | 92 => ⟨S128x1, .f32⟩
  | 93 => ⟨S_, .f32⟩
  | 94 => ⟨S128x1, .f32⟩
  | 95 => ⟨S128x1, .f32⟩
  | 96 => ⟨S128x2048, .f32⟩
  | 97 => ⟨S128x2048, .f32⟩
  | 98 => ⟨S2048x16384, .f32⟩
  | 99 => ⟨S128x16384, .f32⟩
  | 100 => ⟨S128, .i32⟩
  | 101 => ⟨S_, .i32⟩
  | 102 => ⟨S128, .i32⟩
  | 103 => ⟨S128, .i1⟩
  | 104 => ⟨S_, .i32⟩
  | 105 => ⟨S128, .i32⟩
  | 106 => ⟨S128, .i32⟩
  | 107 => ⟨S128, .i32⟩
  | 108 => ⟨S_, .i32⟩
  | 109 => ⟨S128, .i32⟩
  | 110 => ⟨S128, .i1⟩
  | 111 => ⟨S_, .i32⟩
  | 112 => ⟨S128, .i32⟩
  | 113 => ⟨S128, .i32⟩
  | 114 => ⟨S128, .i32⟩
  | 115 => ⟨S128x1, .i32⟩
  | 116 => ⟨S128x1, .i32⟩
  | 117 => ⟨S128x2, .i32⟩
  | 118 => ⟨S128, .f32⟩
  | 119 => ⟨S128x1, .f32⟩
  | 120 => ⟨S_, .f32⟩
  | 121 => ⟨S128x1, .f32⟩
  | 122 => ⟨S128x1, .f32⟩
  | 123 => ⟨S_, .i32⟩
  | 124 => ⟨S128, .i32⟩
  | 125 => ⟨S128, .i1⟩
  | 126 => ⟨S_, .i32⟩
  | 127 => ⟨S128, .i32⟩
  | _ => ⟨S128x2048, .f32⟩

abbrev hbmTy0_2 (i : Nat) : BufTy := match i % 128 with
  | 0 => ⟨S128, .i32⟩
  | 1 => ⟨S128, .i32⟩
  | 2 => ⟨S128x1, .i32⟩
  | 3 => ⟨S128x2048, .f32⟩
  | 4 => ⟨S2048x16384, .f32⟩
  | 5 => ⟨S128x16384, .f32⟩
  | 6 => ⟨S128x16384, .f32⟩
  | 7 => ⟨S128x16384, .i1⟩
  | 8 => ⟨S_, .f32⟩
  | 9 => ⟨S128x16384, .f32⟩
  | 10 => ⟨S128x16384, .i1⟩
  | 11 => ⟨S128x16384, .i1⟩
  | 12 => ⟨S_, .f32⟩
  | 13 => ⟨S128x16384, .f32⟩
  | 14 => ⟨S128x16384, .f32⟩
  | 15 => ⟨S_, .f32⟩
  | 16 => ⟨S128x16384, .f32⟩
  | 17 => ⟨S128x16384, .f32⟩
  | 18 => ⟨S128x16384, .f32⟩
  | 19 => ⟨S128x16384, .f32⟩
  | 20 => ⟨S128x16384, .f32⟩
  | 21 => ⟨S128x16384, .f32⟩
  | 22 => ⟨S128x16384, .f32⟩
  | 23 => ⟨S128x16384, .f32⟩
  | 24 => ⟨S128x16384, .i32⟩
  | 25 => ⟨S_, .i32⟩
  | 26 => ⟨S_, .i32⟩
  | 27 => ⟨S_, .f32⟩
  | 28 => ⟨S_, .f32⟩
  | 29 => ⟨S128x16384, .f32⟩
  | 30 => ⟨S128x16384, .f32⟩
  | 31 => ⟨S_, .f32⟩
  | 32 => ⟨S_, .f32⟩
  | 33 => ⟨S_, .i32⟩
  | 34 => ⟨S_, .i1⟩
  | 35 => ⟨S_, .i32⟩
  | 36 => ⟨S_, .i32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | _ => ⟨S128x2048, .f32⟩

abbrev hbmTy (i : Nat) : BufTy := match i / 128 with
  | 0 => hbmTy0_0 i
  | 1 => hbmTy0_1 i
  | 2 => hbmTy0_2 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_9 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_c_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_cst_14 : Ref sig .tc := ⟨.hbm, 98, rfl⟩
abbrev main_v61 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_v65 : Ref sig .tc := ⟨.hbm, 107, rfl⟩
abbrev main_cst_17 : Ref sig .tc := ⟨.hbm, 108, rfl⟩
abbrev main_v66 : Ref sig .tc := ⟨.hbm, 109, rfl⟩
abbrev main_v67 : Ref sig .tc := ⟨.hbm, 110, rfl⟩
abbrev main_cst_18 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_19 : Ref sig .tc := ⟨.hbm, 116, rfl⟩
abbrev main_v72 : Ref sig .tc := ⟨.hbm, 117, rfl⟩
abbrev main_v73 : Ref sig .tc := ⟨.hbm, 118, rfl⟩
abbrev main_cst_20 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_c_21 : Ref sig .tc := ⟨.hbm, 129, rfl⟩
abbrev main_v83 : Ref sig .tc := ⟨.hbm, 130, rfl⟩
abbrev main_cst_22 : Ref sig .tc := ⟨.hbm, 131, rfl⟩
abbrev main_call4_v0 : Ref sig .tc := ⟨.hbm, 132, rfl⟩
abbrev main_call4_v1 : Ref sig .tc := ⟨.hbm, 133, rfl⟩
abbrev main_v84 : Ref sig .tc := ⟨.hbm, 134, rfl⟩
abbrev main_cst_23 : Ref sig .tc := ⟨.hbm, 135, rfl⟩
abbrev main_v85 : Ref sig .tc := ⟨.hbm, 136, rfl⟩
abbrev main_c_24 : Ref sig .tc := ⟨.hbm, 137, rfl⟩
abbrev main_v86 : Ref sig .tc := ⟨.hbm, 138, rfl⟩
abbrev main_c_25 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_26 : Ref sig .tc := ⟨.hbm, 143, rfl⟩
abbrev main_call5_v0 : Ref sig .tc := ⟨.hbm, 144, rfl⟩
abbrev main_v90 : Ref sig .tc := ⟨.hbm, 145, rfl⟩
abbrev main_v91 : Ref sig .tc := ⟨.hbm, 146, rfl⟩
abbrev main_cst_27 : Ref sig .tc := ⟨.hbm, 147, rfl⟩
abbrev main_call6_v0 : Ref sig .tc := ⟨.hbm, 148, rfl⟩
abbrev main_call6_v1 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_c_28 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_29 : Ref sig .tc := ⟨.hbm, 158, rfl⟩
abbrev main_v99 : Ref sig .tc := ⟨.hbm, 159, rfl⟩
abbrev main_v100 : Ref sig .tc := ⟨.hbm, 160, rfl⟩
abbrev main_c_30 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_31 : Ref sig .tc := ⟨.hbm, 165, rfl⟩
abbrev main_v104 : Ref sig .tc := ⟨.hbm, 166, rfl⟩
abbrev main_v105 : Ref sig .tc := ⟨.hbm, 167, rfl⟩
abbrev main_c_32 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_33 : Ref sig .tc := ⟨.hbm, 178, rfl⟩
abbrev main_v115 : Ref sig .tc := ⟨.hbm, 179, rfl⟩
abbrev main_v116 : Ref sig .tc := ⟨.hbm, 180, rfl⟩
abbrev main_cst_34 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_35 : Ref sig .tc := ⟨.hbm, 191, rfl⟩
abbrev main_v126 : Ref sig .tc := ⟨.hbm, 192, rfl⟩
abbrev main_cst_36 : Ref sig .tc := ⟨.hbm, 193, rfl⟩
abbrev main_call8_v0 : Ref sig .tc := ⟨.hbm, 194, rfl⟩
abbrev main_call8_v1 : Ref sig .tc := ⟨.hbm, 195, rfl⟩
abbrev main_v127 : Ref sig .tc := ⟨.hbm, 196, rfl⟩
abbrev main_cst_37 : Ref sig .tc := ⟨.hbm, 197, rfl⟩
abbrev main_v128 : Ref sig .tc := ⟨.hbm, 198, rfl⟩
abbrev main_c_38 : Ref sig .tc := ⟨.hbm, 199, rfl⟩
abbrev main_v129 : Ref sig .tc := ⟨.hbm, 200, rfl⟩
abbrev main_c_39 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_40 : Ref sig .tc := ⟨.hbm, 205, rfl⟩
abbrev main_call9_v0 : Ref sig .tc := ⟨.hbm, 206, rfl⟩
abbrev main_v133 : Ref sig .tc := ⟨.hbm, 207, rfl⟩
abbrev main_v134 : Ref sig .tc := ⟨.hbm, 208, rfl⟩
abbrev main_cst_41 : Ref sig .tc := ⟨.hbm, 209, rfl⟩
abbrev main_v135 : Ref sig .tc := ⟨.hbm, 210, rfl⟩
abbrev main_cst_42 : Ref sig .tc := ⟨.hbm, 211, rfl⟩
abbrev main_v136 : Ref sig .tc := ⟨.hbm, 212, rfl⟩
abbrev main_v137 : Ref sig .tc := ⟨.hbm, 213, rfl⟩
abbrev main_c_43 : Ref sig .tc := ⟨.hbm, 214, rfl⟩
abbrev main_v138 : Ref sig .tc := ⟨.hbm, 215, rfl⟩
abbrev main_v139 : Ref sig .tc := ⟨.hbm, 216, rfl⟩
abbrev main_cst_44 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_cst_45 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_c_46 : Ref sig .tc := ⟨.hbm, 229, rfl⟩
abbrev main_v150 : Ref sig .tc := ⟨.hbm, 230, rfl⟩
abbrev main_v151 : Ref sig .tc := ⟨.hbm, 231, rfl⟩
abbrev main_c_47 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_c_48 : Ref sig .tc := ⟨.hbm, 236, rfl⟩
abbrev main_v155 : Ref sig .tc := ⟨.hbm, 237, rfl⟩
abbrev main_v156 : Ref sig .tc := ⟨.hbm, 238, rfl⟩
abbrev main_c_49 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_50 : Ref sig .tc := ⟨.hbm, 248, rfl⟩
abbrev main_v165 : Ref sig .tc := ⟨.hbm, 249, rfl⟩
abbrev main_v166 : Ref sig .tc := ⟨.hbm, 250, rfl⟩
abbrev main_c_51 : Ref sig .tc := ⟨.hbm, 251, rfl⟩
abbrev main_v167 : Ref sig .tc := ⟨.hbm, 252, rfl⟩
abbrev main_v168 : Ref sig .tc := ⟨.hbm, 253, rfl⟩
abbrev main_c_52 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_53 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_cst_54 : Ref sig .tc := ⟨.hbm, 268, rfl⟩
abbrev main_v181 : Ref sig .tc := ⟨.hbm, 269, rfl⟩
abbrev main_v182 : Ref sig .tc := ⟨.hbm, 270, rfl⟩
abbrev main_cst_55 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_c_56 : Ref sig .tc := ⟨.hbm, 281, rfl⟩
abbrev main_v192 : Ref sig .tc := ⟨.hbm, 282, rfl⟩
abbrev main_cst_57 : Ref sig .tc := ⟨.hbm, 283, rfl⟩
abbrev main_call10_v0 : Ref sig .tc := ⟨.hbm, 284, rfl⟩
abbrev main_call10_v1 : Ref sig .tc := ⟨.hbm, 285, rfl⟩
abbrev main_v193 : Ref sig .tc := ⟨.hbm, 286, rfl⟩
abbrev main_cst_58 : Ref sig .tc := ⟨.hbm, 287, rfl⟩
abbrev main_v194 : Ref sig .tc := ⟨.hbm, 288, rfl⟩
abbrev main_c_59 : Ref sig .tc := ⟨.hbm, 289, rfl⟩
abbrev main_v195 : Ref sig .tc := ⟨.hbm, 290, rfl⟩
abbrev main_c_60 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_cst_61 : Ref sig .tc := ⟨.hbm, 295, rfl⟩
abbrev main_call11_v0 : Ref sig .tc := ⟨.hbm, 296, rfl⟩
abbrev main_v199 : Ref sig .tc := ⟨.hbm, 297, rfl⟩
abbrev main_cst_62 : Ref sig .tc := ⟨.hbm, 298, rfl⟩
abbrev main_call12_v0 : Ref sig .tc := ⟨.hbm, 299, rfl⟩
abbrev main_v200 : Ref sig .tc := ⟨.hbm, 300, rfl⟩
abbrev main_cst_63 : Ref sig .tc := ⟨.hbm, 301, rfl⟩
abbrev main_v201 : Ref sig .tc := ⟨.hbm, 302, rfl⟩
abbrev main_cst_64 : Ref sig .tc := ⟨.hbm, 303, rfl⟩
abbrev main_v202 : Ref sig .tc := ⟨.hbm, 304, rfl⟩
abbrev main_v203 : Ref sig .tc := ⟨.hbm, 305, rfl⟩
abbrev main_cst_65 : Ref sig .tc := ⟨.hbm, 306, rfl⟩
abbrev main_v204 : Ref sig .tc := ⟨.hbm, 307, rfl⟩
abbrev main_v205 : Ref sig .tc := ⟨.hbm, 308, rfl⟩

abbrev nD : Nat := 1
abbrev τ : Topo := Topo.v7x

variable {F : FTy → Type} [FloatOps F]
-- ==== Proof.KernelIdealRun.lean ====
/- The launch of `KernelIdeal`'s two kernel calls, following the launch set-up that `pv gen` prints for this program: per call
   what the body leaves in its output block, and the run of @main as host operations, call, call, host operations.
   The program ends with `W4` in every buffer; the argument arrays are among those that no step writes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__loss_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x2048 := Rect.unit (s := S128x2048) ![0, 0] S128x2048.size inb_S128x2048_S128x2048_0_0
abbrev r0_1 : Rect S1x128 := Rect.unit (s := S1x128) ![0, 0] S1x128.size inb_S1x128_S1x128_0_0
abbrev r0_2 : Rect S1x1 := Rect.unit (s := S1x1) ![0, 0] S1x1.size inb_S1x1_S1x1_0_0

/-! ## What the body leaves in each output window's buffer -/

/-! ### Values of the body that the stores' payloads, spelt out, would write more than once

    Each is a vector the body binds (often a part call's result), stated over the input windows' blocks and
    numbered on from the skeleton's payload functions (`k0_pay14` …, after `k0_pay13`), so that
    `out0_W` and the values after it name it instead of spelling it out; the comment after each is the printed function's
    name for the value (a count appended where that name is bound again). -/

def k0_pay14 (x0 : Vec F S128x2048 .f32) (x1 : Vec F S1x128 .i32) : FVec F S128x128 .f32 :=
  k0_pay2 (View.ld x0 r0_0) -- `v10`
def k0_pay15 (x0 : Vec F S128x2048 .f32) (x1 : Vec F S1x128 .i32) : IVec S128x128 1 :=
  k0_pay3 (View.ld x1 r0_1) -- `v17`
def k0_pay16 (x0 : Vec F S128x2048 .f32) (x1 : Vec F S1x128 .i32) : FVec F S128x1 .f32 :=
  k0_pay5 (View.ld x0 r0_0) (View.ld x1 r0_1) -- `v27`

/-- Window 2's staging buffer after the body, from the input windows' blocks: its 1 store as pieces, LAST
    FIRST (Lib/Pipeline/FrameBody.lean `View.canon`; the payloads are the skeleton's and the values stated above). -/
def out0_2 (x0 : Vec F S128x2048 .f32) (x1 : Vec F S1x128 .i32) : Vec F S1x1 .f32 :=
  View.canon [⟨r0_2, k0_pay1 (k0_pay9 (k0_pay6 (View.ld x0 r0_0) (View.ld x1 r0_1)) (k0_pay7 (View.ld x0 r0_0) (View.ld x1 r0_1)) (k0_pay8 (View.ld x0 r0_0) (View.ld x1 r0_1))) (k0_pay12 (k0_pay14 x0 x1) (k0_pay15 x0 x1) (k0_pay16 x0 x1)) (k0_pay13 (k0_pay14 x0 x1) (k0_pay15 x0 x1) (k0_pay16 x0 x1))⟩]

/-- Its stores tile the buffer (checked by evaluation), so they cover it. -/
theorem cover0_2 (p0 : Vec F S1x1 .f32) (y : S1x1.Idx) :
    ∃ pc ∈ ([⟨r0_2, p0⟩] : List (View.Piece (Elt F) S1x1 .f32)), y ∈ pc.1.set :=
  View.cover_of_tiled [⟨r0_2, p0⟩] S1x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S128x2048 .f32) (harg0 : arg0.IsWhole) (arg1 : Memref sig .tc .vmem S1x128 .i32) (harg1 : arg1.IsWhole) (arg2 : Memref sig .tc .vmem S1x1 .f32) (harg2 : arg2.IsWhole)
    (x0 : Vec F S128x2048 .f32) (x1 : Vec F S1x128 .i32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__loss_kernel arg0 harg0 arg1 harg1 arg2 harg2) K := by
  simp only [cc0__loss_kernel_eq_skeleton]; unfold cc0__loss_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__zeros_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S128x1024 := Rect.unit (s := S128x1024) ![0, 0] S128x1024.size inb_S128x1024_S128x1024_0_0

/-! ## What the body leaves in each output window's buffer -/

/-- Window 0's staging buffer after the body, from the input windows' blocks: its 1 store as pieces, LAST
    FIRST (Lib/Pipeline/FrameBody.lean `View.canon`; the payloads are the skeleton's). -/
def out1_0  : Vec F S128x1024 .f32 :=
  View.canon [⟨r1_0, k1_pay1 (F := F)⟩]

/-- Its stores tile the buffer (checked by evaluation), so they cover it. -/
theorem cover1_0 (p0 : Vec F S128x1024 .f32) (y : S128x1024.Idx) :
    ∃ pc ∈ ([⟨r1_0, p0⟩] : List (View.Piece (Elt F) S128x1024 .f32)), y ∈ pc.1.set :=
  View.cover_of_tiled [⟨r1_0, p0⟩] S128x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S128x1024 .f32) (harg1 : arg1.IsWhole)
     (K : PUnit → sProp 𝕄) :
    iprop((∃ d, owns (c : Thread nD τ) arg1 fullShare d)
        ∗ (iprop(owns (c : Thread nD τ) arg1 fullShare (out1_0 )) -∗ K ⟨⟩))
      ⊢ wp frame (wpE (defs₀ (F := F)) Variants.none c none) E (cc1__zeros_kernel i arg1 harg1) K := by
  simp only [cc1__zeros_kernel_eq_skeleton]; unfold cc1__zeros_kernel_skel
  unfold owns
  iintro ⟨⟨%d0, %f0, -, H0⟩, Hk⟩
  sl_exec
  sl_step
  iapply Hk
  iexists _; isplitr
  swap; · iexact H0
  ipureintro
  exact View.read_writes_eq_canon _ _ _ (cover1_0 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => out1_0
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = out1_0  := by dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0]
  iintro ⟨HΦ, Ho, ⟨%d0, H0⟩⟩
  iapply (sound_kernel1 c Set.univ (grid1.coords t) _ _  _)
  isplitl [H0]; · iexists _; iexact H0
  iintro ⟨H0⟩
  isplitl [HΦ]; · iexact HΦ
  isplitl [Ho]; · iexact Ho
  iexact H0

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters @main terminates with the two results as `W4` has them, the arguments
    unchanged, the counters zero. -/
theorem run : θ_run defs (onTc (τ := τ) (main (F := F))) ⟨m, fun _ => 0, ρ⟩ (fun r => (∀ c : Dev nD,
      r.2.mem ((c.tc : Thread nD τ).loc main_v3) = W4 m ρ c (Proc.devRef .tc main_v3)
      ∧ r.2.mem ((c.tc : Thread nD τ).loc main_v2) = W4 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v3 (by decide)), h c _ (mem_uc main_v2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

/-- The frame claim: the run without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2, h.2⟩) (run m ρ)

end Cert.KernelIdeal.Gen

end
-- ==== Proof.Loss.lean ====
/-
  The arithmetic of the triplet term, on the extended reals: the term over all 128 columns, its diagonal filled with the
  values that mean "absent", is the term over the 127 off-diagonal columns.
-/
module

public import Idealize.ShloMosaic.PureOps.Ideal
public import Idealize.ShloMosaic.Lib.Pointwise
public import Idealize.ShloMosaic.Lib.IndicatorCount

@[expose] public section

noncomputable section

namespace TripletTerm

open Idealize.ShloMosaic
open scoped BigOperators

/-! ### The constants -/

/-- `2.0`, the fill of an absent positive. -/
abbrev cTwo : EReal := Ideal.ofBits .f32 1073741824#32
/-- `-2.0`, the fill of an absent negative. -/
abbrev cNegTwo : EReal := Ideal.ofBits .f32 3221225472#32
/-- The margin below the easiest positive. -/
abbrev cPos : EReal := Ideal.ofBits .f32 1045220557#32
/-- The margin below the hardest positive. -/
abbrev cNeg : EReal := Ideal.ofBits .f32 1050253722#32
/-- `-∞`. -/
abbrev cBot : EReal := Ideal.ofBits .f32 4286578688#32
/-- `+∞`. -/
abbrev cTop : EReal := Ideal.ofBits .f32 2139095040#32

theorem cTwo_eq : cTwo = ((2 : ℝ) : EReal) := by
  simp [Ideal.ofBits, Ideal.ieee, -EReal.coe_mul]
  norm_num
theorem cNegTwo_eq : cNegTwo = ((-2 : ℝ) : EReal) := by
  simp [Ideal.ofBits, Ideal.ieee, -EReal.coe_mul]
  norm_num
theorem cBot_eq : cBot = ⊥ := by
  simp [Ideal.ofBits, Ideal.ieee]
theorem cTop_eq : cTop = ⊤ := by
  simp [Ideal.ofBits, Ideal.ieee]
theorem cPos_nonneg : 0 ≤ cPos := by
  simp [Ideal.ofBits, Ideal.ieee, -EReal.coe_mul]
theorem cNeg_le_one : cNeg ≤ ((1 : ℝ) : EReal) := by
  have h : cNeg = ((5033165 / 16777216 : ℝ) : EReal) := by
    simp [Ideal.ofBits, Ideal.ieee, -EReal.coe_mul]
    norm_num
  rw [h]
  exact_mod_cast (by norm_num : (5033165 / 16777216 : ℝ) ≤ 1)

/-! ### The term -/

/-- Which entries of `p` are hard positives: those below the row's greatest present positive less a margin. -/
def hardPos {n : ℕ} (p : Fin 128 → Fin n → EReal) (i : Fin 128) (j : Fin n) : BitVec 1 :=
  BitVec.ofBool (decide (p i j < Finset.fold max cBot (fun x => if p i x = cTwo then cNegTwo else p i x) Finset.univ - cPos))

/-- Which entries of `q` are hard negatives: those above the row's least positive less a margin. -/
def hardNeg {n : ℕ} (p q : Fin 128 → Fin n → EReal) (i : Fin 128) (j : Fin n) : BitVec 1 :=
  BitVec.ofBool (decide (Finset.fold min cTop (fun x => p i x) Finset.univ - cNeg < q i j))

/-- The cross entropy of the logit `x` against the label `t`. -/
def entropy (t x : EReal) : EReal := max x 0 - x * t + Ideal.log1p (Ideal.exp (-max x (-x)))

/-- How many entries a mask selects. -/
def count {n : ℕ} (m : Fin 128 → Fin n → BitVec 1) : EReal := ∑ i, ∑ j, ((m i j).toNat : EReal)

/-- The mean of `e` over the selected entries, and `0` where none is. -/
def meanOver {n : ℕ} (m : Fin 128 → Fin n → BitVec 1) (e : Fin 128 → Fin n → EReal) : EReal :=
  if 0 < count m then Ideal.div (∑ i, ∑ j, Scalar.select (m i j) (e i j) 0) (max (count m) 1) else 0

/-- The triplet term of positives `p` and negatives `q`. -/
def term {n : ℕ} (p q : Fin 128 → Fin n → EReal) : EReal :=
  meanOver (hardPos p) (fun i j => entropy 1 (p i j)) + meanOver (hardNeg p q) (fun i j => entropy 0 (q i j))

/-- The off-diagonal entries of a square table, row by row. -/
def offDiag {α : Type} (x : Fin 128 → Fin 128 → α) (i : Fin 128) (k : Fin 127) : α := x i (i.succAbove k)

/-- A mask that selects nothing on the diagonal has the mean of its off-diagonal part. -/
theorem meanOver_offDiag (m : Fin 128 → Fin 128 → BitVec 1) (e : Fin 128 → Fin 128 → EReal) (h : ∀ i, m i i = 0#1) :
    meanOver m e = meanOver (offDiag m) (offDiag e) := by
  have hs : ∀ f : Fin 128 → Fin 128 → EReal, (∀ i, f i i = 0) → ∑ i, ∑ j, f i j = ∑ i, ∑ k, offDiag f i k := fun f hf =>
    Finset.sum_congr rfl fun i _ => by rw [Fin.sum_univ_succAbove _ i, hf, zero_add]; rfl
  have hc : count m = count (offDiag m) := hs (fun i j => ((m i j).toNat : EReal)) fun i => by simp [h]
  unfold meanOver
  rw [hc, hs (fun i j => Scalar.select (m i j) (e i j) 0) fun i => by rw [h]; rfl]
  rfl

/-- A row's greatest value is the greatest off the diagonal, if the diagonal's is no greater than the others. -/
theorem foldMax_offDiag (f : Fin 128 → EReal) (i : Fin 128) (h : ∀ j, f i ≤ f j) :
    Finset.fold max cBot f Finset.univ = Finset.fold max cBot (fun k : Fin 127 => f (i.succAbove k)) Finset.univ := by
  refine eq_of_forall_ge_iff fun c => ?_
  simp only [Finset.fold_max_le, Finset.mem_univ, true_imp_iff, Fin.forall_iff_succAbove i]
  exact ⟨fun hc => ⟨hc.1, hc.2.2⟩, fun hc => ⟨hc.1, (h _).trans (hc.2 0), hc.2⟩⟩

/-- A row's least value is the least off the diagonal, if the diagonal's is no less than the others. -/
theorem foldMin_offDiag (f : Fin 128 → EReal) (i : Fin 128) (h : ∀ j, f j ≤ f i) :
    Finset.fold min cTop f Finset.univ = Finset.fold min cTop (fun k : Fin 127 => f (i.succAbove k)) Finset.univ := by
  refine eq_of_forall_le_iff fun c => ?_
  simp only [Finset.le_fold_min, Finset.mem_univ, true_imp_iff, Fin.forall_iff_succAbove i]
  exact ⟨fun hc => ⟨hc.1, hc.2.2⟩, fun hc => ⟨hc.1, (hc.2 0).trans (h _), hc.2⟩⟩

theorem ofBool_zero {p : Prop} [Decidable p] (h : ¬p) : BitVec.ofBool (decide p) = 0#1 := by simp [h]

/-- THE DIAGONAL CHANGES NOTHING: where every present positive lies in `[-1, 1]` and the diagonal is absent from both
    tables, the term over all columns is the term over the off-diagonal ones. -/
theorem term_offDiag (p q : Fin 128 → Fin 128 → EReal) (hp : ∀ i j, p i j = cTwo ∨ ((-1 : ℝ) : EReal) ≤ p i j ∧ p i j ≤ ((1 : ℝ) : EReal))
    (hpd : ∀ i, p i i = cTwo) (hqd : ∀ i, q i i = cNegTwo) : term p q = term (offDiag p) (offDiag q) := by
  have hle : ∀ i j, p i j ≤ cTwo := fun i j => (hp i j).elim le_of_eq fun h =>
    h.2.trans (by rw [cTwo_eq]; exact_mod_cast (by norm_num : (1 : ℝ) ≤ 2))
  have hge : ∀ i j, ((-1 : ℝ) : EReal) ≤ p i j := fun i j => (hp i j).elim
    (fun h => by rw [h, cTwo_eq]; exact_mod_cast (by norm_num : (-1 : ℝ) ≤ 2)) fun h => h.1
  have ht1 : ∀ i j, (if p i j = cTwo then cNegTwo else p i j) ≤ ((1 : ℝ) : EReal) := fun i j => by
    split_ifs with e
    · rw [cNegTwo_eq]; exact_mod_cast (by norm_num : (-2 : ℝ) ≤ 1)
    · exact ((hp i j).resolve_left e).2
  have ht2 : ∀ i j, cNegTwo ≤ (if p i j = cTwo then cNegTwo else p i j) := fun i j => by
    split_ifs with e
    · exact le_rfl
    · rw [cNegTwo_eq]
      exact (by exact_mod_cast (by norm_num : (-2 : ℝ) ≤ -1) : ((-2 : ℝ) : EReal) ≤ ((-1 : ℝ) : EReal)).trans (hge i j)
  have hmax : ∀ i, Finset.fold max cBot (fun x => if p i x = cTwo then cNegTwo else p i x) Finset.univ ≤ ((1 : ℝ) : EReal) := fun i =>
    (Finset.fold_max_le _).2 ⟨by rw [cBot_eq]; exact bot_le, fun x _ => ht1 i x⟩
  have hmin : ∀ i, ((-1 : ℝ) : EReal) ≤ Finset.fold min cTop (fun x => p i x) Finset.univ := fun i =>
    (Finset.le_fold_min _).2 ⟨by rw [cTop_eq]; exact le_top, fun x _ => hge i x⟩
  have h1 : ∀ i, hardPos p i i = 0#1 := fun i => ofBool_zero (not_lt.2 (by
    rw [hpd i]
    refine (EReal.sub_le_sub (hmax i) cPos_nonneg).trans ?_
    rw [cTwo_eq, sub_zero]
    exact_mod_cast (by norm_num : (1 : ℝ) ≤ 2)))
  have h2 : ∀ i, hardNeg p q i i = 0#1 := fun i => ofBool_zero (not_lt.2 (by
    rw [hqd i, cNegTwo_eq]
    refine le_trans ?_ (EReal.sub_le_sub (hmin i) cNeg_le_one)
    rw [← EReal.coe_sub]
    exact_mod_cast (by norm_num : (-2 : ℝ) ≤ -1 - 1)))
  have e1 : offDiag (hardPos p) = hardPos (offDiag p) := funext fun i => funext fun k => by
    unfold offDiag hardPos
    rw [foldMax_offDiag (fun x => if p i x = cTwo then cNegTwo else p i x) i fun j => by
      rw [if_pos (hpd i)]; exact ht2 i j]
  have e2 : offDiag (hardNeg p q) = hardNeg (offDiag p) (offDiag q) := funext fun i => funext fun k => by
    unfold offDiag hardNeg
    rw [foldMin_offDiag (fun x => p i x) i fun j => by rw [hpd i]; exact hle i j]
  unfold term
  rw [meanOver_offDiag _ _ h1, meanOver_offDiag _ _ h2, e1, e2]
  rfl

/-- A finite sum of reals, taken in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ### Counting with words -/

/-- A mask's count is the number of its ones. -/
theorem count_eq_card {n : ℕ} (m : Fin 128 → Fin n → BitVec 1) :
    count m = (((Finset.univ.filter fun k : Fin 128 × Fin n => m k.1 k.2 = 1#1).card : ℝ) : EReal) := by
  have hb : ∀ b : BitVec 1, ((b.toNat : ℕ) : EReal) = ((if b = 1#1 then (1 : ℝ) else 0 : ℝ) : EReal) := fun b => by
    rcases BitVec.eq_zero_or_eq_one b with h | h <;> subst h <;> simp
  unfold count
  have hs : ∑ i, ∑ j, (((m i j).toNat : ℕ) : EReal) = ∑ k : Fin 128 × Fin n, (((m k.1 k.2).toNat : ℕ) : EReal) :=
    (Fintype.sum_prod_type fun k : Fin 128 × Fin n => (((m k.1 k.2).toNat : ℕ) : EReal)).symm
  rw [hs, Finset.card_filter, Nat.cast_sum, coe_sum]
  refine Finset.sum_congr rfl fun k _ => ?_
  rw [hb]
  split_ifs <;> simp

/-- The mean over a mask of at most `2 ^ 31 - 1` entries, its count held in a 32-bit word. -/
theorem meanOver_word {n : ℕ} (m : Fin 128 → Fin n → BitVec 1) (e : Fin 128 → Fin n → EReal) (hn : 128 * n < 2 ^ 31)
    (c : BitVec 32) (hc : c = Finset.fold IntOp.addi 0#32 (fun k : Fin 128 × Fin n => (m k.1 k.2).setWidth 32) Finset.univ) :
    (if 0 < c.toInt then Ideal.div (∑ i, ∑ j, Scalar.select (m i j) (e i j) 0) (((IntOp.maxsi c 1#32).toInt : ℝ) : EReal) else 0)
      = meanOver m e := by
  rw [IndicatorCount.fold_addi_setWidth_eq_card] at hc
  have hk := count_eq_card m
  generalize hN : (Finset.univ.filter fun k : Fin 128 × Fin n => m k.1 k.2 = 1#1).card = N at hc hk
  have hlt : N < 2 ^ 31 := by
    refine lt_of_le_of_lt ?_ hn
    rw [← hN]
    refine (Finset.card_filter_le _ _).trans ?_
    simp
  have hi : c.toInt = (N : ℤ) := by
    rw [hc, BitVec.toInt_eq_toNat_of_lt (by simp; omega)]
    simp; omega
  have hm : (IntOp.maxsi c 1#32).toInt = max (N : ℤ) 1 := by
    unfold IntOp.maxsi
    by_cases h : 1 < N
    · have : (1#32).slt c = true := by rw [BitVec.slt, hi]; simpa using h
      rw [if_pos this, hi, max_eq_left (by omega)]
    · have : (1#32).slt c = false := by rw [BitVec.slt, hi]; simpa using h
      rw [this, max_eq_right (by omega)]
      rfl
  unfold meanOver
  rw [hk, hm, hi]
  by_cases h : 0 < N
  · rw [if_pos (by exact_mod_cast h), if_pos (by exact_mod_cast h)]
    congr 1
    rw [max_eq_left (by omega : (1 : ℤ) ≤ N), max_eq_left (by exact_mod_cast h)]
    simp
  · rw [if_neg (by exact_mod_cast h), if_neg (by exact_mod_cast h)]

/-! ### Rows of length at most one -/

/-- A row divided by the greater of its length and a positive `ε`: real numbers whose squares sum to at most one. (A row
    with an infinite entry has infinite length, and becomes all zeros.) -/
theorem unit_of_row {n : ℕ} (x : Fin n → EReal) (ε : ℝ) (hε : 0 < ε) :
    ∃ r : Fin n → ℝ, (∀ k, Ideal.div (x k) (max (Ideal.sqrt (∑ k, x k * x k)) (ε : EReal)) = (r k : EReal)) ∧ ∑ k, r k * r k ≤ 1 := by
  by_cases hx : ∀ k, x k ≠ ⊥ ∧ x k ≠ ⊤
  · have hr : ∀ k, x k = ((x k).toReal : EReal) := fun k => (EReal.coe_toReal (hx k).2 (hx k).1).symm
    generalize hf : (fun k => (x k).toReal) = f at *
    have hr : ∀ k, x k = (f k : EReal) := fun k => by rw [← hf]; exact hr k
    simp only [hr]
    have hs : (∑ k, (f k : EReal) * (f k : EReal)) = ((∑ k, f k * f k : ℝ) : EReal) := by rw [coe_sum]; simp only [EReal.coe_mul]
    have h0 : 0 ≤ ∑ k, f k * f k := Finset.sum_nonneg fun k _ => mul_self_nonneg _
    have hq : Ideal.sqrt ((∑ k, f k * f k : ℝ) : EReal) = (Real.sqrt (∑ k, f k * f k) : EReal) := if_neg (not_lt.2 h0)
    have hm : max (Real.sqrt (∑ k, f k * f k) : EReal) (ε : EReal) = ((max (Real.sqrt (∑ k, f k * f k)) ε : ℝ) : EReal) :=
      (EReal.coe_strictMono.monotone.map_max).symm
    rw [hs, hq, hm]
    generalize hd : max (Real.sqrt (∑ k, f k * f k)) ε = d
    have hdp : 0 < d := by rw [← hd]; exact lt_max_of_lt_right hε
    have hds : Real.sqrt (∑ k, f k * f k) ≤ d := by rw [← hd]; exact le_max_left _ _
    refine ⟨fun k => f k * d⁻¹, fun k => ?_, ?_⟩
    · unfold Ideal.div
      rw [if_neg (by exact_mod_cast hdp.ne'), ← EReal.coe_inv, ← EReal.coe_mul]
    · have : ∑ k, f k * d⁻¹ * (f k * d⁻¹) = (∑ k, f k * f k) * (d⁻¹ * d⁻¹) := by
        rw [Finset.sum_mul]
        exact Finset.sum_congr rfl fun k _ => by ring
      rw [this]
      have h2 : ∑ k, f k * f k ≤ d * d := by
        rw [← Real.mul_self_sqrt h0]
        exact mul_self_le_mul_self (Real.sqrt_nonneg _) hds
      calc (∑ k, f k * f k) * (d⁻¹ * d⁻¹) ≤ d * d * (d⁻¹ * d⁻¹) :=
            mul_le_mul_of_nonneg_right h2 (mul_nonneg (inv_nonneg.2 hdp.le) (inv_nonneg.2 hdp.le))
        _ = 1 := by field_simp
  · have hT : ∑ k, x k * x k = ⊤ := by
      obtain ⟨k, hk⟩ := not_forall.1 hx
      have hkT : x k * x k = ⊤ := by
        rcases eq_or_ne (x k) ⊥ with h | h
        · rw [h]; rfl
        · have : x k = ⊤ := by by_contra h'; exact hk ⟨h, h'⟩
          rw [this]; rfl
      have hnn : ∀ y : EReal, 0 ≤ y * y := fun y => by
        rcases le_total 0 y with h | h
        · exact mul_nonneg h h
        · rw [← neg_mul_neg]
          have : 0 ≤ -y := by rwa [EReal.le_neg, neg_zero]
          exact mul_nonneg this this
      refine top_le_iff.1 ?_
      rw [← hkT]
      exact Finset.single_le_sum (f := fun k => x k * x k) (fun k _ => hnn (x k)) (Finset.mem_univ k)
    refine ⟨fun _ => 0, fun k => ?_, by simp⟩
    have hs : Ideal.sqrt ⊤ = ⊤ := rfl
    rw [hT, hs, max_eq_left le_top]
    simp [Ideal.div]

/-- The inner product of two such rows lies in `[-1, 1]`. -/
theorem dot_bounds {n : ℕ} (a b : Fin n → ℝ) (ha : ∑ k, a k * a k ≤ 1) (hb : ∑ k, b k * b k ≤ 1) :
    ((-1 : ℝ) : EReal) ≤ ∑ k, (a k : EReal) * (b k : EReal) ∧ ∑ k, (a k : EReal) * (b k : EReal) ≤ ((1 : ℝ) : EReal) := by
  have hs : (∑ k, (a k : EReal) * (b k : EReal)) = ((∑ k, a k * b k : ℝ) : EReal) := by rw [coe_sum]; simp only [EReal.coe_mul]
  rw [hs, EReal.coe_le_coe_iff, EReal.coe_le_coe_iff]
  have h1 : 0 ≤ ∑ k, (a k + b k) * (a k + b k) := Finset.sum_nonneg fun k _ => mul_self_nonneg _
  have h2 : 0 ≤ ∑ k, (a k - b k) * (a k - b k) := Finset.sum_nonneg fun k _ => mul_self_nonneg _
  have e1 : ∑ k, (a k + b k) * (a k + b k) = ∑ k, a k * a k + 2 * ∑ k, a k * b k + ∑ k, b k * b k := by
    rw [Finset.mul_sum, ← Finset.sum_add_distrib, ← Finset.sum_add_distrib]
    exact Finset.sum_congr rfl fun k _ => by ring
  have e2 : ∑ k, (a k - b k) * (a k - b k) = ∑ k, a k * a k - 2 * ∑ k, a k * b k + ∑ k, b k * b k := by
    rw [Finset.mul_sum, ← Finset.sum_sub_distrib, ← Finset.sum_add_distrib]
    exact Finset.sum_congr rfl fun k _ => by ring
  constructor <;> linarith

/-! ### The similarities and the two tables -/

theorem select_same {w : ℕ} (a b : BitVec w) (x y : EReal) : Scalar.select (IntOp.cmpi .eq a b) x y = if a = b then x else y := by
  have e : (a == b) = decide (a = b) := by rw [Bool.eq_iff_iff]; simp
  by_cases h : a = b <;> simp [IntOp.cmpi, Scalar.select, e, h]

theorem select_other {w : ℕ} (a b : BitVec w) (x y : EReal) : Scalar.select (~~~IntOp.cmpi .eq a b) x y = if a = b then y else x := by
  have e : (a == b) = decide (a = b) := by rw [Bool.eq_iff_iff]; simp
  by_cases h : a = b <;> simp [IntOp.cmpi, Scalar.select, e, h]

/-- The floor under a row's length. -/
abbrev cEps : EReal := Ideal.ofBits .f32 730643660#32

theorem cEps_pos : ∃ ε : ℝ, 0 < ε ∧ cEps = (ε : EReal) := by
  refine ⟨(9223372 : ℝ) * 2 ^ (-63 : ℤ), by positivity, ?_⟩
  simp [Ideal.ofBits, Ideal.ieee, -EReal.coe_mul]

/-- Entry `k` of row `i`, the row scaled to length one. -/
def unitRow (x : Fin 128 → Fin 2048 → EReal) (i : Fin 128) (k : Fin 2048) : EReal :=
  Ideal.div (x i k) (max (Ideal.sqrt (∑ k, x i k * x i k)) cEps)

/-- The similarity of rows `i` and `j`. -/
def sim (x : Fin 128 → Fin 2048 → EReal) (i j : Fin 128) : EReal := ∑ k, unitRow x i k * unitRow x j k

theorem sim_bounds (x : Fin 128 → Fin 2048 → EReal) (i j : Fin 128) :
    ((-1 : ℝ) : EReal) ≤ sim x i j ∧ sim x i j ≤ ((1 : ℝ) : EReal) := by
  obtain ⟨ε, hε, e⟩ := cEps_pos
  obtain ⟨a, ha, ha'⟩ := unit_of_row (x i) ε hε
  obtain ⟨b, hb, hb'⟩ := unit_of_row (x j) ε hε
  have h := dot_bounds a b ha' hb'
  unfold sim unitRow
  rw [e]
  simp only [ha, hb]
  exact h

/-- The similarities of a row's own class, its own column among them, and `2` elsewhere. -/
def posOf (x : Fin 128 → Fin 2048 → EReal) (t : Fin 128 → BitVec 32) (i j : Fin 128) : EReal :=
  if t i = t j then sim x i j else cTwo

/-- The similarities of the other classes, and `-2` elsewhere. -/
def negOf (x : Fin 128 → Fin 2048 → EReal) (t : Fin 128 → BitVec 32) (i j : Fin 128) : EReal :=
  if t i = t j then cNegTwo else sim x i j

/-- The positives with the row's own column absent too. -/
def posOff (x : Fin 128 → Fin 2048 → EReal) (t : Fin 128 → BitVec 32) (i j : Fin 128) : EReal :=
  if t i = t j ∧ i ≠ j then sim x i j else cTwo

/-- The triplet term with absent diagonal entries is the triplet term of the off-diagonal tables. -/
theorem term_eq (x : Fin 128 → Fin 2048 → EReal) (t : Fin 128 → BitVec 32) :
    term (posOff x t) (negOf x t) = term (offDiag (posOf x t)) (offDiag (negOf x t)) := by
  rw [term_offDiag (posOff x t) (negOf x t) (fun i j => ?_) (fun i => if_neg fun h => h.2 rfl) fun i => if_pos rfl]
  · congr 1
    funext i k
    have hne : i ≠ i.succAbove k := (Fin.succAbove_ne i k).symm
    simp [offDiag, posOff, posOf, hne]
  · unfold posOff
    split_ifs
    · exact Or.inr (sim_bounds x i j)
    · exact Or.inl rfl

end TripletTerm
-- ==== Proof.KernelValue.lean ====
/-
  What the idealized kernel computes: its first block is the logarithm of 16384 plus the triplet term of the embeddings
  and targets, its second is zero.
-/
module

public import proofs.«01_k».proof.Proof.Loss
public import proofs.«01_k».proof.Proof.KernelIdealRun
public import Idealize.ShloMosaic.Lib.Pointwise

@[expose] public section

set_option maxRecDepth 16384

noncomputable section

namespace Cert.KernelIdeal.Value

open Idealize.ShloMosaic Cert.KernelIdeal Cert.KernelIdeal.Gen TripletTerm

variable (x0 : Vec Ideal S128x2048 .f32) (x1 : Vec Ideal S1x128 .i32)

/-- The embeddings block, as a table. -/
abbrev emb (i : Fin 128) (k : Fin 2048) : EReal := x0 (ix2 i k)
/-- The targets block, as a list. -/
abbrev tgt (i : Fin 128) : BitVec 32 := x1 (ix2 0 i)

theorem pay2_apply (i j : Fin 128) : k0_pay2 x0 (ix2 i j) = sim (emb x0) i j := by
  pointwise [k0_pay2]
  rfl

theorem pay3_apply (i j : Fin 128) : k0_pay3 (F := Ideal) x1 (ix2 i j) = IntOp.cmpi .eq (tgt x1 i) (tgt x1 j) := by
  pointwise [k0_pay3]

/-- The kernel's choice of a positive: the similarity where the class is the row's own and the column is another. -/
theorem select_posOff (x : Fin 128 → Fin 2048 → EReal) (t : Fin 128 → BitVec 32) (i j : Fin 128) :
    Scalar.select (IntOp.andi (IntOp.cmpi CmpIPredicate.eq (t i) (t j)) (IntOp.cmpi CmpIPredicate.ne (BitVec.ofNat 32 ↑i) (BitVec.ofNat 32 ↑j)))
      (sim x i j) cTwo = posOff x t i j := by
  have hn : (BitVec.ofNat 32 i.val == BitVec.ofNat 32 j.val) = decide (i = j) := by
    rw [Bool.eq_iff_iff, beq_iff_eq, decide_eq_true_iff, Fin.ext_iff, ← BitVec.toNat_inj]
    simp only [BitVec.toNat_ofNat]
    omega
  have he : (t i == t j) = decide (t i = t j) := by rw [Bool.eq_iff_iff]; simp
  unfold posOff
  by_cases h : t i = t j <;> by_cases h' : i = j <;> simp [IntOp.cmpi, IntOp.andi, Scalar.select, bne, hn, he, h, h']

theorem pay4_apply (i j : Fin 128) : k0_pay4 x0 x1 (ix2 i j) = posOff (emb x0) (tgt x1) i j := by
  pointwise [k0_pay4]
  rw [pay3_apply, pay2_apply]
  exact select_posOff _ _ _ _

theorem pay6_apply (i j : Fin 128) : k0_pay6 x0 x1 (ix2 i j) = hardPos (posOff (emb x0) (tgt x1)) i j := by
  pointwise [k0_pay6]
  simp only [pay4_apply]
  rfl

theorem pay5_apply (i : Fin 128) : k0_pay5 x0 x1 (ix2 i 0)
    = Finset.fold min cTop (fun j => posOff (emb x0) (tgt x1) i j) Finset.univ - cNeg := by
  pointwise [k0_pay5]
  simp only [pay4_apply]

theorem pay10_apply (i j : Fin 128) : k0_pay10 (F := Ideal) (k0_pay2 x0) (k0_pay3 (F := Ideal) x1) (ix2 i j) = negOf (emb x0) (tgt x1) i j := by
  pointwise [k0_pay10]
  rw [pay3_apply, pay2_apply]
  exact select_same _ _ _ _

theorem pay11_apply (i j : Fin 128) : k0_pay11 (F := Ideal) (k0_pay2 x0) (k0_pay3 (F := Ideal) x1) (k0_pay5 x0 x1) (ix2 i j)
    = hardNeg (posOff (emb x0) (tgt x1)) (negOf (emb x0) (tgt x1)) i j := by
  pointwise [k0_pay11]
  rw [pay10_apply, pay5_apply]
  rfl

/-- A one-bit word widened and read as a float is its bit. -/
theorem sitofp_bit (b : BitVec 1) : FloatOps.sitofp (F := Ideal) FTy.f32 (BitVec.setWidth 32 b) = ((b.toNat : ℕ) : EReal) := by
  show (((BitVec.setWidth 32 b).toInt : ℝ) : EReal) = _
  rcases BitVec.eq_zero_or_eq_one b with h | h <;> subst h <;> simp

/-- The kernel's cross entropy against the label one. -/
theorem entropy_one (x : EReal) :
    max x 0 - x + Ideal.log1p (Ideal.exp (0 - FloatOps.absf (F := Ideal) (φ := FTy.f32) x)) = entropy 1 x := by
  unfold entropy
  rw [zero_sub, mul_one]
  rfl

/-- The kernel's cross entropy against the label zero. -/
theorem entropy_zero (x : EReal) :
    max x 0 - x * 0 + Ideal.log1p (Ideal.exp (0 - FloatOps.absf (F := Ideal) (φ := FTy.f32) x)) = entropy 0 x := by
  unfold entropy
  rw [zero_sub]
  rfl

theorem pay9_apply : k0_pay9 (F := Ideal) (k0_pay6 x0 x1) (k0_pay7 x0 x1) (k0_pay8 x0 x1)
    = meanOver (hardPos (posOff (emb x0) (tgt x1))) (fun i j => entropy 1 (posOff (emb x0) (tgt x1) i j)) := by
  pointwise [k0_pay9, k0_pay7, k0_pay8]
  simp only [pay6_apply, pay4_apply]
  simp only [sitofp_bit, entropy_one]
  rfl

theorem pay12_apply : k0_pay12 (F := Ideal) (k0_pay2 x0) (k0_pay3 (F := Ideal) x1) (k0_pay5 x0 x1)
    = count (hardNeg (posOff (emb x0) (tgt x1)) (negOf (emb x0) (tgt x1))) := by
  pointwise [k0_pay12]
  simp only [pay11_apply]
  simp only [sitofp_bit]
  rfl

theorem pay13_apply : k0_pay13 (F := Ideal) (k0_pay2 x0) (k0_pay3 (F := Ideal) x1) (k0_pay5 x0 x1) (ix1 0)
    = ∑ i, ∑ j, Scalar.select (hardNeg (posOff (emb x0) (tgt x1)) (negOf (emb x0) (tgt x1)) i j)
        (entropy 0 (negOf (emb x0) (tgt x1) i j)) 0 := by
  pointwise [k0_pay13]
  simp only [pay11_apply, pay10_apply]
  simp only [entropy_zero]

end Cert.KernelIdeal.Value
-- ==== Proof.KernelFinal.lean ====
/-
  The idealized kernel's two result arrays, read off its run.
-/
module

public import proofs.«01_k».proof.Proof.KernelValue
public import Idealize.ShloMosaic.Lib.Pipeline.ValueKit
public import Idealize.ShloMosaic.Lib.Claim
public import Idealize.ShloMosaic.Lib.Tactic.CleanTypes

@[expose] public section

set_option maxRecDepth 16384

noncomputable section

namespace Cert.KernelIdeal.Value

open Idealize.ShloMosaic Idealize.ShloMosaic.TcCoe Idealize.SL.Sem Cert.KernelIdeal Cert.KernelIdeal.Gen TripletTerm
open Idealize.ShloMosaic.Pipeline (Dat Cfg Window)

variable (m : (ℓ : Loc nD τ sig) → Buf (Elt Ideal) ℓ) (ρ : Dev nD → PrngReg) (c : Dev nD)

/-- Every block the second call writes is zero, and they cover the array. -/
theorem zeros : W4 m ρ c (Proc.devRef .tc main_v2) = fun _ => (0 : EReal) := by
  rw [W4_of m ρ c main_v2 (by decide)]
  refine (W3_arr m ρ c 0).trans ?_
  refine (dat1 (V2 m ρ) c).arrAt_eq_of_covers 0 _ (by decide +kernel) fun t hf y => ?_
  blk_simp
  rw [after1_0]
  frame_out
  pointwise [k1_pay1]

/-- The first reshape: the targets as one row. -/
theorem reshape_row (V : Valuation τ sig (Elt Ideal)) (i : Fin 128) :
    StableHlo.after hostOps0 V (Proc.devRef .tc main_v0) (ix2 0 i) = V (Proc.devRef .tc main_arg1) (ix1 i) := by
  entry_read
  clean_types
  pointwise

/-- The last reshape: the one entry as a scalar. -/
theorem reshape_scalar (V : Valuation τ sig (Elt Ideal)) :
    StableHlo.after hostOps2 V (Proc.devRef .tc main_v3) ix0 = V (Proc.devRef .tc main_v1) (ix2 0 0) := by
  entry_read
  clean_types
  pointwise

theorem idx0 (t : Fin cfg0.N) (a : Fin 2) : win0_0.index t a = 0 := by
  rw [fin_N0 t]; revert a; decide
theorem idx1 (t : Fin cfg0.N) (a : Fin 2) : win0_1.index t a = 0 := by
  rw [fin_N0 t]; revert a; decide

/-- The first call's embeddings block is the argument. -/
theorem block0 (t : Fin cfg0.N) : iblk0 (V1 m ρ) c 0 t = m ((c : Thread nD τ).loc main_arg0) := by
  refine Eq.trans ?_ (W1_of m ρ c main_arg0 (by decide))
  blk_ext! [iblk0, idx0 t]

/-- The first call's targets block is the argument, as one row. -/
theorem block1 (t : Fin cfg0.N) : iblk0 (V1 m ρ) c 1 t = W1 m ρ c (Proc.devRef .tc main_v0) := by
  blk_ext! [iblk0, idx1 t]

theorem out_apply (x0 : Vec Ideal S128x2048 .f32) (x1 : Vec Ideal S1x128 .i32) : out0_2 x0 x1 (ix2 0 0)
    = Ideal.log (Ideal.ofBits .f32 1182793728#32) + term (posOff (emb x0) (tgt x1)) (negOf (emb x0) (tgt x1)) := by
  unfold out0_2 k0_pay14 k0_pay15 k0_pay16
  frame_out
  pointwise [k0_pay1]
  rw [pay9_apply, pay12_apply, pay13_apply]
  rfl

/-- The kernel's scalar, from the embeddings and the targets. -/
abbrev lossOf (x : S128x2048.Idx → EReal) (t : S128.Idx → BitVec 32) : EReal :=
  Ideal.log (Ideal.ofBits .f32 1182793728#32)
    + term (posOff (fun i k => x (ix2 i k)) (fun i => t (ix1 i))) (negOf (fun i k => x (ix2 i k)) (fun i => t (ix1 i)))

theorem loss : W4 m ρ c (Proc.devRef .tc main_v3)
    = fun _ => lossOf (m ((c : Thread nD τ).loc main_arg0)) (m ((c : Thread nD τ).loc main_arg1)) := by
  have h1 : W3 m ρ c (Proc.devRef .tc main_v1)
      = fun _ => lossOf (m ((c : Thread nD τ).loc main_arg0)) (m ((c : Thread nD τ).loc main_arg1)) := by
    rw [W3_of m ρ c main_v1 (by decide)]
    refine (W2_arr m ρ c 2).trans ?_
    refine (dat0 (V1 m ρ) c).arrAt_eq_of_covers 2 _ (by decide +kernel) fun t hf y => ?_
    blk_simp
    rw [after0_2, block0, block1]
    have hy : y = ix2 0 0 := by
      funext a
      match a with
      | ⟨0, _⟩ => exact Subsingleton.elim (α := Fin 1) _ _
      | ⟨1, _⟩ => exact Subsingleton.elim (α := Fin 1) _ _
    rw [hy]
    refine (out_apply _ _).trans ?_
    have ht : tgt (W1 m ρ c (Proc.devRef .tc main_v0)) = fun i => m ((c : Thread nD τ).loc main_arg1) (ix1 i) :=
      funext fun i => reshape_row (W0 m ρ c) i
    rw [ht]
  funext y
  obtain rfl : y = ix0 := funext fun a => a.elim0
  exact (reshape_scalar (W3 m ρ c)).trans (congrFun h1 _)

end Cert.KernelIdeal.Value
-- ==== Proof.ReferenceTables.lean ====
/-
  The tables of the reference's triplet term at an index: the similarities, the off-diagonal columns, and the two tables
  gathered off the diagonal.
-/
module

public import proofs.«01_k».proof.Proof.Loss
public import proofs.«01_k».proof.Proof.Gen.ReferenceIdeal
public import proofs.«01_k».proof.Proof.Gen.ReferenceIdeal.Run
public import Idealize.ShloMosaic.Lib.Pointwise
public import Idealize.ShloMosaic.Lib.Tactic.CleanTypes
public import Idealize.ShloMosaic.Lib.Routing.OpsPair

@[expose] public section

set_option maxRecDepth 16384

noncomputable section

namespace Cert.ReferenceIdeal.Tables

open Idealize.ShloMosaic Idealize.ShloMosaic.StableHlo Idealize.ShloMosaic.TcCoe Idealize.SL.Sem
open Cert.ReferenceIdeal Cert.ReferenceIdeal.Gen Cert.ReferenceIdeal.Value TripletTerm

/-! ### A square table read at pairs of positions -/

/-- `x[row, col]`: where the index table holds the numbers of row `r` and column `c`, the result holds the entry there. -/
theorem gather_pair {α : Type} (x : S128x128.Idx → α) (idx : IVec S128x127x2 32) (i : Fin 128) (k : Fin 127) (r c : Fin 128)
    (hr : idx (ix3 i k 0) = BitVec.ofNat 32 r.val) (hc : idx (ix3 i k 1) = BitVec.ofNat 32 c.val) :
    Host.gather gather_S128x128_S128x127x2_S128x127_n_01_n_n_01_2_11 x idx (ix2 i k) = x (ix2 r c) := by
  have hv : ∀ a : Fin 128, min ((BitVec.ofNat 32 a.val).toInt.toNat) (128 - 1) = a.val := fun a => by
    have h : (BitVec.ofNat 32 a.val).toInt = a.val := by
      rw [BitVec.toInt_eq_toNat_of_lt (by simp; omega)]
      simp; omega
    rw [h]; omega
  have h0 : GatherDims.siIdx gather_S128x128_S128x127x2_S128x127_n_01_n_n_01_2_11 (ix2 i k) ⟨0, by decide⟩ = ix3 i k 0 := by
    funext b
    match b with
    | ⟨0, _⟩ => rfl
    | ⟨1, _⟩ => rfl
    | ⟨2, _⟩ => rfl
  have h1 : GatherDims.siIdx gather_S128x128_S128x127x2_S128x127_n_01_n_n_01_2_11 (ix2 i k) ⟨1, by decide⟩ = ix3 i k 1 := by
    funext b
    match b with
    | ⟨0, _⟩ => rfl
    | ⟨1, _⟩ => rfl
    | ⟨2, _⟩ => rfl
  unfold Host.gather
  refine congrArg x (funext fun a => Fin.ext ?_)
  match a with
  | ⟨0, _⟩ =>
    show GatherDims.start gather_S128x128_S128x127x2_S128x127_n_01_n_n_01_2_11 (ix2 i k) idx 0 + GatherDims.batchCoord _ (ix2 i k) 0
      + GatherDims.offCoord _ (ix2 i k) 0 = r.val
    have hs : GatherDims.start gather_S128x128_S128x127x2_S128x127_n_01_n_n_01_2_11 (ix2 i k) idx 0
        = min (idx (GatherDims.siIdx gather_S128x128_S128x127x2_S128x127_n_01_n_n_01_2_11 (ix2 i k) ⟨0, by decide⟩)).toInt.toNat (128 - 1) := rfl
    rw [GatherDims.batchCoord_eq_zero _ _ _ List.not_mem_nil, GatherDims.offCoord_eq_zero _ _ _ (by decide), hs, h0, hr, hv, Nat.add_zero]
  | ⟨1, _⟩ =>
    show GatherDims.start gather_S128x128_S128x127x2_S128x127_n_01_n_n_01_2_11 (ix2 i k) idx 1 + GatherDims.batchCoord _ (ix2 i k) 1
      + GatherDims.offCoord _ (ix2 i k) 1 = c.val
    have hs : GatherDims.start gather_S128x128_S128x127x2_S128x127_n_01_n_n_01_2_11 (ix2 i k) idx 1
        = min (idx (GatherDims.siIdx gather_S128x128_S128x127x2_S128x127_n_01_n_n_01_2_11 (ix2 i k) ⟨1, by decide⟩)).toInt.toNat (128 - 1) := rfl
    rw [GatherDims.batchCoord_eq_zero _ _ _ List.not_mem_nil, GatherDims.offCoord_eq_zero _ _ _ (by decide), hs, h1, hc, hv, Nat.add_zero]

/-! ### The row and column numbers -/

/-- A row number is not negative, so the wrap of negative positions leaves it. -/
theorem wrap_small (a : ℕ) (h : a < 128) (b : BitVec 32) :
    Scalar.select (IntOp.cmpi .slt (BitVec.ofNat 32 a) 0#32) b (BitVec.ofNat 32 a) = BitVec.ofNat 32 a :=
  Routing.wrap_of_lt _ _ (by simp; omega)

/-- Column `k` of row `i` with the diagonal left out, as a word. -/
theorem column_word (i : Fin 128) (k : Fin 127) :
    Scalar.select (IntOp.cmpi CmpIPredicate.slt (BitVec.ofNat 32 ↑k) (BitVec.ofNat 32 ↑i)) (BitVec.ofNat 32 ↑k)
      (IntOp.addi (BitVec.ofNat 32 ↑k) 1#32) = BitVec.ofNat 32 (i.succAbove k).val := by
  have hk : (BitVec.ofNat 32 k.val).toInt = k.val := by
    rw [BitVec.toInt_eq_toNat_of_lt (by simp; omega)]
    simp; omega
  have hi : (BitVec.ofNat 32 i.val).toInt = i.val := by
    rw [BitVec.toInt_eq_toNat_of_lt (by simp; omega)]
    simp; omega
  have hd : IntOp.cmpi CmpIPredicate.slt (BitVec.ofNat 32 k.val) (BitVec.ofNat 32 i.val) = BitVec.ofBool (decide (k.val < i.val)) := by
    show BitVec.ofBool (BitVec.slt _ _) = _
    rw [BitVec.slt, hk, hi]
    simp
  rw [hd]
  by_cases h : k.val < i.val
  · rw [Fin.succAbove_of_castSucc_lt _ _ (by rw [Fin.lt_def]; exact h)]
    simp [h, Scalar.select]
  · rw [Fin.succAbove_of_le_castSucc _ _ (by rw [Fin.le_def]; exact not_lt.1 h)]
    simp only [h, decide_false]
    show IntOp.addi _ _ = _
    simp [IntOp.addi, BitVec.ofNat_add]

variable (V0 : Valuation τ sig (Elt Ideal))

/-- The embeddings, as a table. -/
abbrev emb (i : Fin 128) (k : Fin 2048) : EReal := V0 (Proc.devRef .tc main_arg0) (ix2 i k)
/-- The targets, as a list. -/
abbrev tgt (i : Fin 128) : BitVec 32 := V0 (Proc.devRef .tc main_arg1) (ix1 i)

theorem v30_apply (i : Fin 128) (k : Fin 2048) : res_main_v30 V0 (ix2 i k) = unitRow (emb V0) i k := by
  unfold res_main_v30
  clean_types
  pointwise
  rfl

theorem v32_apply (i j : Fin 128) : res_main_v32 V0 (ix2 i j) = sim (emb V0) i j := by
  unfold res_main_v32
  clean_types
  pointwise
  simp only [v30_apply]
  rfl

theorem v37_apply (i j : Fin 128) : res_main_v37 V0 (ix2 i j) = IntOp.cmpi CmpIPredicate.eq (tgt V0 i) (tgt V0 j) := by
  unfold res_main_v37
  clean_types
  pointwise

theorem v39_apply (i : Fin 128) (k : Fin 127) : res_main_v39 V0 (ix2 i k) = BitVec.ofNat 32 i.val := by
  unfold res_main_v39
  clean_types
  pointwise

theorem v44_apply (i : Fin 128) (k : Fin 127) : res_main_v44 V0 (ix2 i k) = BitVec.ofNat 32 (i.succAbove k).val := by
  unfold res_main_v44 res_main_v40 res_main_v39
  clean_types
  pointwise
  exact column_word i k

theorem v93_apply (i : Fin 128) (k : Fin 127) : res_main_v93 V0 (ix2 i k) = BitVec.ofNat 32 i.val := by
  unfold res_main_v93
  clean_types
  pointwise

theorem v98_apply (i : Fin 128) (k : Fin 127) : res_main_v98 V0 (ix2 i k) = BitVec.ofNat 32 (i.succAbove k).val := by
  unfold res_main_v98 res_main_v94 res_main_v93
  clean_types
  pointwise
  exact column_word i k

/-- The reference's positives: its similarities of the row's class, off the diagonal. -/
theorem v58_apply (i : Fin 128) (k : Fin 127) : res_main_v58 V0 (ix2 i k) = offDiag (posOf (emb V0) (tgt V0)) i k := by
  unfold res_main_v58
  clean_types
  rw [gather_pair _ _ i k i (i.succAbove k)
    (by pointwise; rw [v39_apply]; exact wrap_small _ i.isLt _)
    (by pointwise; rw [v44_apply]; exact wrap_small _ (i.succAbove k).isLt _)]
  pointwise
  rw [v37_apply, v32_apply]
  exact select_same _ _ _ _

/-- The reference's negatives: its similarities of the other classes, off the diagonal. -/
theorem v112_apply (i : Fin 128) (k : Fin 127) : res_main_v112 V0 (ix2 i k) = offDiag (negOf (emb V0) (tgt V0)) i k := by
  unfold res_main_v112
  clean_types
  rw [gather_pair _ _ i k i (i.succAbove k)
    (by pointwise; rw [v93_apply]; exact wrap_small _ i.isLt _)
    (by pointwise; rw [v98_apply]; exact wrap_small _ (i.succAbove k).isLt _)]
  pointwise
  rw [v37_apply, v32_apply]
  exact select_other _ _ _ _

end Cert.ReferenceIdeal.Tables
-- ==== Proof.ZeroTable.lean ====
/-
  A table of zeros in the reference: the logits are zero, some row of the table sums to zero, the scaled log-softmax is
  of zeros, and its mean is the logarithm of the number of columns.
-/
module

public import proofs.«01_k».proof.Proof.ReferenceTables
public import Idealize.ShloMosaic.Lib.Routing.OpsOrder

@[expose] public section

set_option maxRecDepth 16384

noncomputable section

namespace Cert.ReferenceIdeal.Tables

open Idealize.ShloMosaic Idealize.ShloMosaic.StableHlo Idealize.ShloMosaic.TcCoe Idealize.SL.Sem
open Cert.ReferenceIdeal Cert.ReferenceIdeal.Gen Cert.ReferenceIdeal.Value TripletTerm

theorem zero_words : (constant S_ .f32 0x00000000#32 : FVec Ideal S_ .f32) = fun _ => (0 : EReal) := by
  funext y
  exact Ideal.ofBits_zero_f32

/-- Sums of zeros from zero are zero, along any axes. -/
theorem sum_zeros {s t u : Shape} {axes : List (Fin s.rank)} (x : FVec Ideal s .f32) (hx : x = fun _ => (0 : EReal))
    (init : FVec Ideal u .f32) (hi : init = fun _ => (0 : EReal)) (h : s.ReducesTo axes t) (hu : 0 < u.numel) :
    Host.reduceAdd x init h hu = (fun _ => (0 : EReal) : FVec Ideal t .f32) := by
  subst hx hi
  funext j
  show (0 : EReal) + ∑ i ∈ _, (0 : EReal) = 0
  rw [Finset.sum_const_zero, add_zero]

/-- A disjunction of ones is one. -/
theorem or_ones : Host.reduce IntOp.ori (fun _ : S16384.Idx => 1#1) (constantI S_ 1 0#1) reducesTo_S16384_S_d0 h_S_ ix0 = 1#1 := by
  pointwise
  rw [Idealize.ShloMosaic.Routing.fold_ori]
  exact ⟨⟨0, by decide⟩, Finset.mem_univ _, rfl⟩

theorem row_zero (V : FVec Ideal S16384x2048 .f32) (hV : V = fun _ => (0 : EReal)) :
    Host.reduce IntOp.ori (cmpf .oeq (Host.reduceAdd V (constant S_ .f32 0x00000000#32) reducesTo_S16384x2048_S16384_d1 h_S_) (broadcastInDim S16384 ![] bcast_S_S16384 (constant S_ .f32 0x00000000#32))) (constantI S_ 1 0#1) reducesTo_S16384_S_d0 h_S_ ix0 = 1#1 := by
  have h : cmpf .oeq (Host.reduceAdd V (constant S_ .f32 0x00000000#32) reducesTo_S16384x2048_S16384_d1 h_S_)
      (broadcastInDim S16384 ![] bcast_S_S16384 (constant S_ .f32 0x00000000#32)) = fun _ => 1#1 := by
    rw [sum_zeros V hV _ zero_words, zero_words]
    funext y
    show BitVec.ofBool (decide ((0 : EReal) = 0)) = 1#1
    simp
  rw [h]
  exact or_ones

/-- The greatest of zeros, from minus infinity, is zero. -/
theorem max_zeros (x : FVec Ideal S128x16384 .f32) (hx : x = fun _ => (0 : EReal)) (i : Fin 128) :
    Host.reduce (FloatOps.maximumf (F := Ideal)) x (constant S_ .f32 0xFF800000#32) reducesTo_S128x16384_S128_d1 h_S_ (ix1 i) = (0 : EReal) := by
  pointwise
  simp only [hx]
  refine le_antisymm ((Finset.fold_max_le _).2 ⟨cBot_eq.le.trans bot_le, fun _ _ => le_rfl⟩) ?_
  exact (Finset.le_fold_max _).2 (Or.inr ⟨⟨0, by decide⟩, Finset.mem_univ _, le_rfl⟩)

/-- A row's exponentials of zeros sum to the number of columns. -/
theorem exp_zeros (x : FVec Ideal S128x16384 .f32) (hx : x = fun _ => (0 : EReal)) (i : Fin 128) :
    Host.reduceAdd (Host.exp x) (constant S_ .f32 0x00000000#32) reducesTo_S128x16384_S128_d1 h_S_ (ix1 i)
      = ((16384 : ℝ) : EReal) := by
  subst hx
  pointwise
  have e : Ideal.exp 0 = ((1 : ℝ) : EReal) := by
    show ((Real.exp 0 : ℝ) : EReal) = _
    rw [Real.exp_zero]
  rw [e, ← coe_sum, Finset.sum_const, Finset.card_univ, Fintype.card_fin]
  norm_num

/-- A row less a number that depends on the row alone, at an index. -/
theorem shift_apply (x : FVec Ideal S128x16384 .f32) (v : FVec Ideal S128 .f32) (i : Fin 128) (j : Fin 16384) :
    subf x (broadcastInDim S128x16384 ![0, 1] bcast_S128x1_S128x16384_0_1 (broadcastInDim S128x1 ![0] bcast_S128_S128x1_0
      (maximumf (broadcastInDim S128 ![] bcast_S_S128 (constant S_ .f32 0xFF800000#32)) v))) (ix2 i j)
      = x (ix2 i j) - max cBot (v (ix1 i)) := by
  pointwise

/-- A row less the logarithm of a number that depends on the row alone, at an index. -/
theorem shift_log_apply (x : FVec Ideal S128x16384 .f32) (v : FVec Ideal S128 .f32) (i : Fin 128) (j : Fin 16384) :
    subf x (broadcastInDim S128x16384 ![0, 1] bcast_S128x1_S128x16384_0_1 (Host.log (broadcastInDim S128x1 ![0] bcast_S128_S128x1_0 v))) (ix2 i j)
      = x (ix2 i j) - Ideal.log (v (ix1 i)) := by
  pointwise

theorem ix2_of (y : S128x16384.Idx) : ∃ (i : Fin 128) (j : Fin 16384), y = ix2 i j :=
  ⟨y 0, y 1, by
    funext a
    match a with
    | ⟨0, _⟩ => rfl
    | ⟨1, _⟩ => rfl⟩

/-- The number of columns as a word. -/
theorem columns_eq : Ideal.ofBits .f32 1182793728#32 = ((16384 : ℝ) : EReal) := by
  simp [Ideal.ofBits, Ideal.ieee, -EReal.coe_mul]
  norm_num

/-- The mean of a constant over the batch, negated. -/
theorem mean_const (l : ℝ) (x : FVec Ideal S128 .f32) (hx : ∀ i, x (ix1 i) = ((-l : ℝ) : EReal)) :
    Host.negf (Host.divf (Host.reduceAdd x (constant S_ .f32 0x00000000#32) reducesTo_S128_S_d0 h_S_) (constant S_ .f32 0x43000000#32)) ix0
      = ((l : ℝ) : EReal) := by
  pointwise
  simp only [hx]
  have e : Ideal.ofBits .f32 0x43000000#32 = ((128 : ℝ) : EReal) := by
    simp [Ideal.ofBits, Ideal.ieee, -EReal.coe_mul]
    norm_num
  rw [e, ← coe_sum, Finset.sum_const, Finset.card_univ, Fintype.card_fin]
  rw [Ideal.div_coe (by norm_num)]
  rw [← EReal.coe_mul, ← EReal.coe_neg, nsmul_eq_mul]
  congr 1
  push_cast
  ring

/-- The mean of the negated log-softmax of zeros is the logarithm of the number of columns. -/
theorem uniform_loss (x : FVec Ideal S128x16384 .f32) (hx : x = fun _ => (0 : EReal)) (idx : IVec S128x2 32) :
    Host.negf (Host.divf (Host.reduceAdd (Host.gather gather_S128x16384_S128x2_S128_n_01_n_n_01_1_11 (subf x (broadcastInDim S128x16384 ![0, 1] bcast_S128x1_S128x16384_0_1 (Host.log (broadcastInDim S128x1 ![0] bcast_S128_S128x1_0 (Host.reduceAdd (Host.exp x) (constant S_ .f32 0x00000000#32) reducesTo_S128x16384_S128_d1 h_S_))))) idx) (constant S_ .f32 0x00000000#32) reducesTo_S128_S_d0 h_S_) (constant S_ .f32 0x43000000#32)) ix0 = Ideal.log (Ideal.ofBits .f32 1182793728#32) := by
  have hl : Ideal.log ((16384 : ℝ) : EReal) = ((Real.log 16384 : ℝ) : EReal) := by
    show (if (16384 : ℝ) ≤ 0 then ⊥ else ((Real.log 16384 : ℝ) : EReal)) = _
    rw [if_neg (by norm_num)]
  rw [columns_eq, hl]
  refine mean_const _ _ fun i => ?_
  unfold Host.gather
  obtain ⟨a, b, h⟩ := ix2_of (GatherDims.operandIdx gather_S128x16384_S128x2_S128_n_01_n_n_01_1_11 (ix1 i) idx)
  rw [h, shift_log_apply, exp_zeros x hx, hl, hx]
  rw [EReal.coe_neg]
  exact zero_sub _

variable (V0 : Valuation τ sig (Elt Ideal))

/-- The reference's logits where every input and every entry of the table is one: the length of a row. -/
theorem v3_ones (h0 : V0 (Proc.devRef .tc main_arg0) = fun _ => ((1 : ℝ) : EReal))
    (h4 : V0 (Proc.devRef .tc main_arg4) = fun _ => ((1 : ℝ) : EReal)) : res_main_v3 V0 = fun _ => ((2048 : ℝ) : EReal) := by
  unfold res_main_v3
  rw [h0, h4]
  clean_types
  funext y
  pointwise
  rw [← EReal.coe_mul, ← coe_sum, Finset.sum_const, Finset.card_univ, Fintype.card_fin]
  norm_num

variable (hV : V0 (Proc.devRef .tc main_arg4) = fun _ => (0 : EReal))
include hV

/-- The logits. -/
theorem v3_zero : res_main_v3 V0 = fun _ => (0 : EReal) := by
  unfold res_main_v3
  rw [hV]
  clean_types
  funext y
  pointwise
  simp

/-- The logits less their greatest. -/
theorem call0_v5_zero : res_main_call0_v5 V0 = fun _ => (0 : EReal) := by
  funext y
  obtain ⟨i, j, rfl⟩ := ix2_of y
  unfold res_main_call0_v5
  refine (shift_apply _ _ i j).trans ?_
  refine (congrArg₂ (fun a b : EReal => a - max cBot b) (congrFun (v3_zero V0 hV) _) (max_zeros _ (v3_zero V0 hV) i)).trans ?_
  rw [cBot_eq]
  simp

end Cert.ReferenceIdeal.Tables
-- ==== Proof.ReferenceValue.lean ====
/-
  The loss the reference computes where the table is zero: the logarithm of the number of columns, and the triplet term
  over the off-diagonal tables.
-/
module

public import proofs.«01_k».proof.Proof.ReferenceTables
public import proofs.«01_k».proof.Proof.ZeroTable

@[expose] public section

set_option maxRecDepth 16384

noncomputable section

namespace Cert.ReferenceIdeal.Tables

open Idealize.ShloMosaic Idealize.ShloMosaic.StableHlo Idealize.ShloMosaic.TcCoe Idealize.SL.Sem
open Cert.ReferenceIdeal Cert.ReferenceIdeal.Gen Cert.ReferenceIdeal.Value TripletTerm

/-- The three terms weighted and added, the last one switched off. -/
theorem combine (X Y Z W : FVec Ideal S_ .f32) (C : IVec S_ 1) (hC : C ix0 = 1#1) :
    addf (addf (mulf (constant S_ .f32 0x3F800000#32) X) (mulf (constant S_ .f32 0x3F800000#32) (addf Y Z)))
      (mulf (constant S_ .f32 0x40400000#32) (select C (id (constant S_ .f32 0x00000000#32)) W)) ix0
      = X ix0 + (Y ix0 + Z ix0) := by
  pointwise
  rw [hC]
  show _ + Ideal.ofBits .f32 1077936128#32 * Ideal.ofBits .f32 0#32 = _
  rw [Ideal.ofBits_zero_f32, mul_zero, add_zero]

theorem select_sgt (c : BitVec 32) (a b : EReal) :
    Scalar.select (IntOp.cmpi CmpIPredicate.sgt c 0#32) a b = if 0 < c.toInt then a else b := by
  have e : IntOp.cmpi CmpIPredicate.sgt c 0#32 = BitVec.ofBool (decide (0 < c.toInt)) := by
    show BitVec.ofBool (BitVec.slt 0#32 c) = _
    rw [BitVec.slt]
    simp
  rw [e]
  by_cases h : 0 < c.toInt <;> simp [Scalar.select, h]

/-- The mean over the hard positives, as the reference writes it. -/
theorem half_pos (m : IVec S128x127 1) (x : FVec Ideal S128x127 .f32) (cnt : IVec S_ 32)
    (hc : cnt ix0 = Finset.fold IntOp.addi 0#32 (fun k : Fin 128 × Fin 127 => (m (ix2 k.1 k.2)).setWidth 32) Finset.univ) :
    select (cmpi .sgt cnt (constantI S_ 32 0#32)) (Host.divf (Host.reduceAdd (select m
      (addf (subf (maximumf x (broadcastInDim S128x127 ![] bcast_S_S128x127 (constant S_ .f32 0x00000000#32)))
        (mulf x (broadcastInDim S128x127 ![] bcast_S_S128x127 (constant S_ .f32 0x3F800000#32)))) (Host.log1p (Host.exp (Host.negf (Host.absf x)))))
      (broadcastInDim S128x127 ![] bcast_S_S128x127 (id (constant S_ .f32 0x00000000#32)))) (constant S_ .f32 0x00000000#32) reducesTo_S128x127_S_d0_1 h_S_)
      (sitofp .f32 (maxsi cnt (constantI S_ 32 1#32)))) (id (constant S_ .f32 0x00000000#32)) ix0
      = meanOver (fun i j => m (ix2 i j)) (fun i j => entropy 1 (x (ix2 i j))) := by
  pointwise
  refine (select_sgt _ _ _).trans (Eq.trans ?_ (meanOver_word _ _ (by norm_num) (cnt ix0) hc))
  refine congrArg₂ (fun a b : EReal => if 0 < (cnt ix0).toInt then a else b) (congrArg₂ Ideal.div ?_ rfl) Ideal.ofBits_zero_f32
  refine Finset.sum_congr rfl fun i _ => Finset.sum_congr rfl fun j _ => ?_
  refine congrArg₂ (Scalar.select (m (ix2 i j))) ?_ Ideal.ofBits_zero_f32
  unfold entropy
  rw [mul_one]
  rfl

/-- The mean over the hard negatives, as the reference writes it. -/
theorem half_neg (m : IVec S128x127 1) (x : FVec Ideal S128x127 .f32) (cnt : IVec S_ 32)
    (hc : cnt ix0 = Finset.fold IntOp.addi 0#32 (fun k : Fin 128 × Fin 127 => (m (ix2 k.1 k.2)).setWidth 32) Finset.univ) :
    select (cmpi .sgt cnt (constantI S_ 32 0#32)) (Host.divf (Host.reduceAdd (select m
      (addf (subf (maximumf x (broadcastInDim S128x127 ![] bcast_S_S128x127 (constant S_ .f32 0x00000000#32)))
        (mulf x (broadcastInDim S128x127 ![] bcast_S_S128x127 (constant S_ .f32 0x00000000#32)))) (Host.log1p (Host.exp (Host.negf (Host.absf x)))))
      (broadcastInDim S128x127 ![] bcast_S_S128x127 (id (constant S_ .f32 0x00000000#32)))) (constant S_ .f32 0x00000000#32) reducesTo_S128x127_S_d0_1 h_S_)
      (sitofp .f32 (maxsi cnt (constantI S_ 32 1#32)))) (id (constant S_ .f32 0x00000000#32)) ix0
      = meanOver (fun i j => m (ix2 i j)) (fun i j => entropy 0 (x (ix2 i j))) := by
  pointwise
  refine (select_sgt _ _ _).trans (Eq.trans ?_ (meanOver_word _ _ (by norm_num) (cnt ix0) hc))
  refine congrArg₂ (fun a b : EReal => if 0 < (cnt ix0).toInt then a else b) (congrArg₂ Ideal.div ?_ rfl) Ideal.ofBits_zero_f32
  refine Finset.sum_congr rfl fun i _ => Finset.sum_congr rfl fun j _ => ?_
  refine congrArg₂ (Scalar.select (m (ix2 i j))) ?_ Ideal.ofBits_zero_f32
  unfold entropy
  rfl

variable (V0 : Valuation τ sig (Elt Ideal))

theorem v71_apply (i : Fin 128) (k : Fin 127) : res_main_v71 V0 (ix2 i k) = hardPos (offDiag (posOf (emb V0) (tgt V0))) i k := by
  unfold res_main_v71
  clean_types
  pointwise
  simp only [v58_apply]
  rfl

theorem v114_apply (i : Fin 128) (k : Fin 127) :
    res_main_v114 V0 (ix2 i k) = hardNeg (offDiag (posOf (emb V0) (tgt V0))) (offDiag (negOf (emb V0) (tgt V0))) i k := by
  unfold res_main_v114
  clean_types
  pointwise
  simp only [v58_apply, v112_apply]
  rfl

theorem v83_apply : res_main_v83 V0 ix0
    = Finset.fold IntOp.addi 0#32 (fun k : Fin 128 × Fin 127 => (res_main_v71 V0 (ix2 k.1 k.2)).setWidth 32) Finset.univ := by
  unfold res_main_v83
  clean_types
  pointwise

theorem v126_apply : res_main_v126 V0 ix0
    = Finset.fold IntOp.addi 0#32 (fun k : Fin 128 × Fin 127 => (res_main_v114 V0 (ix2 k.1 k.2)).setWidth 32) Finset.univ := by
  unfold res_main_v126
  clean_types
  pointwise

/-- The reference's loss: its result term, the table being zero. -/
theorem loss (m : (ℓ : Loc nD τ sig) → Buf (Elt Ideal) ℓ) (ρ : Dev nD → PrngReg)
    (hV : ∀ c : Dev nD, m ((c.tc : Thread nD τ).loc main_arg4) = fun _ => (0 : EReal)) :
    θ_run defs (onTc (τ := τ) (main (F := Ideal))) ⟨m, fun _ => 0, ρ⟩ fun r => ∀ c : Dev nD,
      r.2.mem ((c.tc : Thread nD τ).loc main_v205) = (fun _ => Ideal.log (Ideal.ofBits .f32 1182793728#32)
        + term (posOff (emb (launchContents m c)) (tgt (launchContents m c))) (negOf (emb (launchContents m c)) (tgt (launchContents m c))))
      ∧ r.2.mem ((c.tc : Thread nD τ).loc main_v3) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run m ρ)
  obtain ⟨hl, ho, hargs⟩ := h c
  have hV0 : launchContents m c (Proc.devRef .tc main_arg4) = fun _ => (0 : EReal) := hV c
  refine ⟨hl.trans (funext fun y => ?_), ho.trans (v3_zero _ hV0), hargs⟩
  generalize launchContents m c = V0 at *
  have hy : y = ix0 := funext fun a => a.elim0
  subst hy
  refine (combine _ _ _ _ _ (row_zero _ hV0)).trans ?_
  refine congrArg₂ (fun a b : EReal => a + b) (uniform_loss _ (call0_v5_zero V0 hV0) _) ?_
  refine (congrArg₂ (fun a b : EReal => a + b) (half_pos _ _ _ (v83_apply V0)) (half_neg _ _ _ (v126_apply V0))).trans ?_
  rw [term_eq]
  unfold term
  simp only [v71_apply, v114_apply, v58_apply, v112_apply]

end Cert.ReferenceIdeal.Tables
-- ==== Proof.lean ====
/-
  The claim: the kernel and its idealization run and leave their arguments and counters as they found them, so does the
  reference, and where the table is zero the idealized kernel's two results are the reference's. The condition on the table is
  needed: the ideal kernel's scores are always zero, and on arrays of ones the reference's are not.
-/
module

public import proofs.«01_k».proof.Defs
public import proofs.«01_k».proof.Proof.KernelRun
public import proofs.«01_k».proof.Proof.KernelIdealRun
public import proofs.«01_k».proof.Proof.KernelFinal
public import proofs.«01_k».proof.Proof.ReferenceValue
public import Idealize.ShloMosaic.Lib.Quiescent

@[expose] public section

noncomputable section

namespace Cert.Proof

open Idealize.ShloMosaic Idealize.ShloMosaic.StableHlo Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference declares no semaphore, and no operation of it writes an argument. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem facts_pre : Cert.Pre_zero_table.Facts := ⟨by decide⟩

theorem facts_pre_ones : Cert.Pre_ones.Facts := ⟨by decide, by decide⟩

theorem facts_post_zero : Cert.Post_scores_zero.Facts := ⟨by decide⟩

theorem facts_post_2048 : Cert.Post_scores_2048.Facts := ⟨by decide⟩

/-- An equality test that answers one compares equal numbers. -/
theorem eq_of_test {a b : EReal} (h : BitVec.ofBool (decide (a = b)) = 1#1) : a = b := by
  by_contra hne
  rw [decide_eq_false hne] at h
  exact absurd h (by decide)

theorem test_of_eq {a b : EReal} (h : a = b) : BitVec.ofBool (decide (a = b)) = 1#1 := by
  rw [decide_eq_true h]
  rfl

theorem word_one : Ideal.ofBits .f32 0x3F800000#32 = ((1 : ℝ) : EReal) := Ideal.ofBits_one_f32

theorem word_2048 : Ideal.ofBits .f32 0x45000000#32 = ((2048 : ℝ) : EReal) := by
  simp [Ideal.ofBits, Ideal.ieee, -EReal.coe_mul]
  norm_num

/-- The precondition says what it is named for: every entry of the table is zero. -/
theorem table_zero [Cert.Pre_zero_table.Facts] {m : (ℓ : Loc Cert.KernelIdeal.nD Cert.KernelIdeal.τ Cert.KernelIdeal.sig) → Buf (Elt Ideal) ℓ}
    (h : Cert.Pre_KernelIdeal_zero_table m) (c : Dev Cert.KernelIdeal.nD) :
    m ((c.tc : Thread Cert.KernelIdeal.nD Cert.KernelIdeal.τ).loc Cert.KernelIdeal.main_arg4) = fun _ => (0 : EReal) :=
  funext fun y => (eq_of_test (congrFun (h c) y)).trans Ideal.ofBits_zero_f32

open Cert.KernelIdeal.Value in
theorem algebraic [Cert.Pre_zero_table.Facts] : Cert.algebraic_KernelIdeal_ReferenceIdeal_pre_zero_table := by
  intro m g m' g' hpre hargs
  have hV := table_zero hpre
  refine ⟨fun c _ => lossOf (m (c.tc.loc Cert.KernelIdeal.main_arg0)) (m (c.tc.loc Cert.KernelIdeal.main_arg1)), fun _ _ => (0 : EReal), ?_, ?_⟩
  · exact (θ_run Cert.KernelIdeal.defs _ _).mono
      (fun r h c => ⟨(h.1 c).1.trans (loss m g c), (h.1 c).2.1.trans (zeros m g c), (h.1 c).2.2⟩) (Cert.KernelIdeal.Gen.run m g)
  · refine (θ_run Cert.ReferenceIdeal.defs _ _).mono (fun r h c => ⟨(h c).1.trans ?_, (h c).2⟩)
      (Cert.ReferenceIdeal.Tables.loss m' g' fun c => ((hargs c).2.2.2.2).trans (hV c))
    have e0 := (hargs c).1
    have e1 := (hargs c).2.1
    funext y
    show _ = lossOf (m (c.tc.loc Cert.KernelIdeal.main_arg0)) (m (c.tc.loc Cert.KernelIdeal.main_arg1))
    rw [← e0, ← e1]

/-- Whatever the table holds, the ideal kernel's scores are zero. -/
theorem scores_zero [Cert.Post_scores_zero.Facts] : Cert.holds_KernelIdeal_scores_zero := by
  intro m g _
  refine (θ_run Cert.KernelIdeal.defs _ _).mono (fun r h c => ?_) (Cert.KernelIdeal.Gen.run m g)
  obtain ⟨_, hs, h0, h1, h2, h3, h4⟩ := h.1 c
  refine ⟨h0, h1, h2, h3, h4, funext fun y => ?_⟩
  rw [hs.trans (Cert.KernelIdeal.Value.zeros m g c)]
  exact test_of_eq Ideal.ofBits_zero_f32.symm

/-- Where every input and every entry of the table is one, the reference's scores are 2048. -/
theorem scores_2048 [Cert.Pre_ones.Facts] [Cert.Post_scores_2048.Facts] : Cert.holds_ReferenceIdeal_scores_2048_pre_ones := by
  intro m g hpre
  refine (θ_run Cert.ReferenceIdeal.defs _ _).mono (fun r h c => ?_) (Cert.ReferenceIdeal.Value.run m g)
  obtain ⟨_, hs, h0, h1, h2, h3, h4⟩ := h c
  refine ⟨h0, h1, h2, h3, h4, funext fun y => ?_⟩
  rw [hs.trans (Cert.ReferenceIdeal.Tables.v3_ones (launchContents m c)
    (funext fun i => (eq_of_test (congrFun (hpre c).1 i)).trans word_one)
    (funext fun i => (eq_of_test (congrFun (hpre c).2 i)).trans word_one))]
  exact test_of_eq word_2048.symm

theorem claim : Cert.Claim :=
  have := facts_pre
  have := facts_pre_ones
  have := facts_post_zero
  have := facts_post_2048
  ⟨Cert.Kernel.Gen.facts, Cert.KernelIdeal.Gen.facts, Cert.ReferenceIdeal.Gen.facts, facts_pre, facts_pre_ones, facts_post_zero,
    facts_post_2048,
    frame_kernel, frame_ideal, fun m ρ _ => frame_ideal m ρ trivial, frame_reference, fun m ρ _ => frame_reference m ρ trivial,
    fun m ρ _ => frame_reference m ρ trivial, trivial, algebraic, scores_zero, scores_2048⟩

end Cert.Proof

end
